-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S32x1024 : Shape := ⟨2, ![32, 1024]⟩
abbrev S1024 : Shape := ⟨1, ![1024]⟩
abbrev S8x1024 : Shape := ⟨2, ![8, 1024]⟩
abbrev S8 : Shape := ⟨1, ![8]⟩
abbrev S8x2048x1024 : Shape := ⟨3, ![8, 2048, 1024]⟩
abbrev S8x2048 : Shape := ⟨2, ![8, 2048]⟩
abbrev S8x1024x1024 : Shape := ⟨3, ![8, 1024, 1024]⟩
abbrev S_ : Shape := ⟨0, ![]⟩

class Facts : Prop where
  bcast_S_S1024 : S_.BroadcastsInDim S1024 (![] : Fin 0 → Fin S1024.rank)
  bitsLt_bf16_f32 : FTy.bits .bf16 < FTy.bits .f32
  bcast_S_S8x1024 : S_.BroadcastsInDim S8x1024 (![] : Fin 0 → Fin S8x1024.rank)
  bcast_S_S8 : S_.BroadcastsInDim S8 (![] : Fin 0 → Fin S8.rank)

variable [Facts]

def fn {F : FTy → Type} [FloatOps F] (main_arg0 : FVec F S32x1024 .bf16) (main_arg1 : FVec F S1024 .f32) (main_arg2 : FVec F S8x1024 .bf16) (main_arg3 : FVec F S8 .bf16) (main_arg4 : FVec F S8x2048x1024 .bf16) (main_arg5 : FVec F S8x2048 .bf16) (main_arg6 : FVec F S8x1024x1024 .bf16) (main_arg7 : FVec F S8x1024 .bf16) : IVec S1024 1 × IVec S8x1024 1 × IVec S8 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S8x1024 .f32 := (extf .f32 · bitsLt_bf16_f32) main_arg2
  let main_v4 : FVec F S8x1024 .f32 := Host.absf main_v3
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_v7 : FVec F S8 .f32 := (extf .f32 · bitsLt_bf16_f32) main_arg3
  let main_v8 : FVec F S8 .f32 := Host.absf main_v7
  let main_cst_1 : FVec F S_ .f32 := constant S_ .f32 0x7F800000#32
  let main_v9 : FVec F S8 .f32 := broadcastInDim S8 ![] bcast_S_S8 main_cst_1
  let main_v10 : IVec S8 1 := cmpf .olt main_v8 main_v9
  (main_v2, main_v6, main_v10)
-- ==== Kernel.lean ====
abbrev S32x1024 : Shape := ⟨2, ![32, 1024]⟩
abbrev S1024 : Shape := ⟨1, ![1024]⟩
abbrev S8x1024 : Shape := ⟨2, ![8, 1024]⟩
abbrev S8 : Shape := ⟨1, ![8]⟩
abbrev S8x2048x1024 : Shape := ⟨3, ![8, 2048, 1024]⟩
abbrev S8x2048 : Shape := ⟨2, ![8, 2048]⟩
abbrev S8x1024x1024 : Shape := ⟨3, ![8, 1024, 1024]⟩
abbrev S1x1024 : Shape := ⟨2, ![1, 1024]⟩
abbrev S1x8 : Shape := ⟨2, ![1, 8]⟩
abbrev S8x1x2048 : Shape := ⟨3, ![8, 1, 2048]⟩
abbrev S8x1x1024 : Shape := ⟨3, ![8, 1, 1024]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S32x4 : Shape := ⟨2, ![32, 4]⟩
abbrev S1024x1024 : Shape := ⟨2, ![1024, 1024]⟩
abbrev S32 : Shape := ⟨1, ![32]⟩
abbrev S32x1 : Shape := ⟨2, ![32, 1]⟩
abbrev S32x8 : Shape := ⟨2, ![32, 8]⟩
abbrev S32x512 : Shape := ⟨2, ![32, 512]⟩
abbrev S1024x512 : Shape := ⟨2, ![1024, 512]⟩

abbrev nBuf : Space → Nat
  | .hbm => 13
  | .vmem => 18
  | .smem => 0
  | _ => 0

abbrev bufTy : (tb : Table) → Fin (tcTables nBuf tb) → BufTy
  | .hbm, ⟨0, _⟩ => ⟨S32x1024, .bf16⟩
  | .hbm, ⟨1, _⟩ => ⟨S1024, .f32⟩
  | .hbm, ⟨2, _⟩ => ⟨S8x1024, .bf16⟩
  | .hbm, ⟨3, _⟩ => ⟨S8, .bf16⟩
  | .hbm, ⟨4, _⟩ => ⟨S8x2048x1024, .bf16⟩
  | .hbm, ⟨5, _⟩ => ⟨S8x2048, .bf16⟩
  | .hbm, ⟨6, _⟩ => ⟨S8x1024x1024, .bf16⟩
  | .hbm, ⟨7, _⟩ => ⟨S8x1024, .bf16⟩
  | .hbm, ⟨8, _⟩ => ⟨S1x1024, .f32⟩
  | .hbm, ⟨9, _⟩ => ⟨S1x8, .bf16⟩
  | .hbm, ⟨10, _⟩ => ⟨S8x1x2048, .bf16⟩
  | .hbm, ⟨11, _⟩ => ⟨S8x1x1024, .bf16⟩
  | .hbm, ⟨12, _⟩ => ⟨S32x1024, .bf16⟩
  | .local _ .vmem, ⟨0, _⟩ => ⟨S32x1024, .bf16⟩
  | .local _ .vmem, ⟨1, _⟩ => ⟨S1x1024, .f32⟩
  | .local _ .vmem, ⟨2, _⟩ => ⟨S8x1024, .bf16⟩
  | .local _ .vmem, ⟨3, _⟩ => ⟨S1x8, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .bf16⟩
  | .local _ .vmem, ⟨7, _⟩ => ⟨S1x1x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1x1024, .bf16⟩
  | .local _ .vmem, ⟨11, _⟩ => ⟨S1x1x1024, .bf16⟩
  | .local _ .vmem, ⟨12, _⟩ => ⟨S32x1024, .bf16⟩
  | .local _ .vmem, ⟨13, _⟩ => ⟨S32x1024, .bf16⟩
  | .local _ .vmem, ⟨14, _⟩ => ⟨S32x4, .f32⟩
  | .local _ .vmem, ⟨15, _⟩ => ⟨S32x1024, .f32⟩
  | .local _ .vmem, ⟨16, _⟩ => ⟨S32x1024, .f32⟩
  | .local _ .vmem, ⟨17, _⟩ => ⟨S1024x1024, .bf16⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v42 : BitVec 1 := Scalar.cmpi .eq arg1 c1_i32
  let v43 : BitVec 32 := Scalar.extui v42
  let c0_i32_25 : BitVec 32 := 0#32
  let v44 : BitVec 1 := Scalar.cmpi .ne v43 c0_i32_25
  v44

def k0_cond6 (i : grid0.Coords) : BitVec 1 :=
  let arg0 : BitVec 32 := BitVec.ofNat 32 (i 0).val
  let c7_i32 : BitVec 32 := 7#32
  let v75 : BitVec 1 := Scalar.cmpi .eq arg0 c7_i32
  let v76 : BitVec 32 := Scalar.extui v75
  let c0_i32_42 : BitVec 32 := 0#32
  let v77 : BitVec 1 := Scalar.cmpi .ne v76 c0_i32_42
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S32x1024 : Shape := ⟨2, ![32, 1024]⟩
abbrev S1024 : Shape := ⟨1, ![1024]⟩
abbrev S8x1024 : Shape := ⟨2, ![8, 1024]⟩
abbrev S8 : Shape := ⟨1, ![8]⟩
abbrev S8x2048x1024 : Shape := ⟨3, ![8, 2048, 1024]⟩
abbrev S8x2048 : Shape := ⟨2, ![8, 2048]⟩
abbrev S8x1024x1024 : Shape := ⟨3, ![8, 1024, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S1024x8 : Shape := ⟨2, ![1024, 8]⟩
abbrev S32x8 : Shape := ⟨2, ![32, 8]⟩
abbrev S1x8 : Shape := ⟨2, ![1, 8]⟩
abbrev S32x2 : Shape := ⟨2, ![32, 2]⟩
abbrev S32x2x1 : Shape := ⟨3, ![32, 2, 1]⟩
abbrev S1 : Shape := ⟨1, ![1]⟩
abbrev S1x1x1 : Shape := ⟨3, ![1, 1, 1]⟩
abbrev S32x2x2048x1024 : Shape := ⟨4, ![32, 2, 2048, 1024]⟩
abbrev S32x2x2048 : Shape := ⟨3, ![32, 2, 2048]⟩
abbrev S32x2x1024 : Shape := ⟨3, ![32, 2, 1024]⟩
abbrev S32x2x1024x1024 : Shape := ⟨4, ![32, 2, 1024, 1024]⟩

abbrev nBuf : Space → Nat
  | .hbm => 182
  | .vmem => 0
  | .smem => 0
  | _ => 0

abbrev hbmTy0_0 (i : Nat) : BufTy := match i % 128 with
  | 0 => ⟨S32x1024, .bf16⟩
  | 1 => ⟨S1024, .f32⟩
  | 2 => ⟨S8x1024, .bf16⟩
  | 3 => ⟨S8, .bf16⟩
  | 4 => ⟨S8x2048x1024, .bf16⟩
  | 5 => ⟨S8x2048, .bf16⟩
  | 6 => ⟨S8x1024x1024, .bf16⟩
  | 7 => ⟨S8x1024, .bf16⟩
  | 8 => ⟨S32x1024, .f32⟩
  | 9 => ⟨S32x1024, .f32⟩
  | 10 => ⟨S_, .f32⟩
  | 11 => ⟨S32, .f32⟩
  | 12 => ⟨S32x1, .f32⟩
  | 13 => ⟨S_, .f32⟩
  | 14 => ⟨S32x1, .f32⟩
  | 15 => ⟨S32x1, .f32⟩
  | 16 => ⟨S_, .f32⟩
  | 17 => ⟨S32x1, .f32⟩
  | 18 => ⟨S32x1, .f32⟩
  | 19 => ⟨S32x1, .f32⟩
  | 20 => ⟨S32x1024, .f32⟩
  | 21 => ⟨S32x1024, .f32⟩
  | 22 => ⟨S1x1024, .f32⟩
  | 23 => ⟨S32x1024, .f32⟩
  | 24 => ⟨S32x1024, .f32⟩
  | 25 => ⟨S32x1024, .bf16⟩
  | 26 => ⟨S1024x8, .bf16⟩
  | 27 => ⟨S32x8, .f32⟩
  | 28 => ⟨S32x8, .bf16⟩
  | 29 => ⟨S1x8, .bf16⟩
  | 30 => ⟨S32x8, .bf16⟩
  | 31 => ⟨S32x8, .bf16⟩
  | 32 => ⟨S32x2, .bf16⟩
  | 33 => ⟨S32x2, .i32⟩
  | 34 => ⟨S_, .bf16⟩
  | 35 => ⟨S32, .bf16⟩
  | 36 => ⟨S_, .bf16⟩
  | 37 => ⟨S32, .bf16⟩
  | 38 => ⟨S32, .bf16⟩
  | 39 => ⟨S32x1, .bf16⟩
  | 40 => ⟨S32x2, .bf16⟩
  | 41 => ⟨S32x2, .bf16⟩
  | 42 => ⟨S32x2, .bf16⟩
  | 43 => ⟨S32x2, .f32⟩
  | 44 => ⟨S_, .f32⟩
  | 45 => ⟨S32, .f32⟩
  | 46 => ⟨S32x1, .f32⟩
  | 47 => ⟨S32x1, .bf16⟩
  | 48 => ⟨S32x2, .bf16⟩
  | 49 => ⟨S32x2, .bf16⟩
  | 50 => ⟨S_, .i32⟩
  | 51 => ⟨S32x2, .i32⟩
  | 52 => ⟨S32x2, .i1⟩
  | 53 => ⟨S_, .i32⟩
  | 54 => ⟨S32x2, .i32⟩
  | 55 => ⟨S32x2, .i32⟩
  | 56 => ⟨S32x2, .i32⟩
  | 57 => ⟨S32x2x1, .i32⟩
  | 58 => ⟨S1, .i32⟩
  | 59 => ⟨S_, .i32⟩
  | 60 => ⟨S32x2x1, .i32⟩
  | 61 => ⟨S32x2x1, .i1⟩
  | 62 => ⟨S1x1x1, .i32⟩
  | 63 => ⟨S32x2x1, .i32⟩
  | 64 => ⟨S32x2x1, .i1⟩
  | 65 => ⟨S32x2x1, .i1⟩
  | 66 => ⟨S_, .i1⟩
  | 67 => ⟨S32x2, .i1⟩
  | 68 => ⟨S32x2x2048x1024, .bf16⟩
  | 69 => ⟨S32x2x2048x1024, .i1⟩
  | 70 => ⟨S_, .bf16⟩
  | 71 => ⟨S32x2x2048x1024, .bf16⟩
  | 72 => ⟨S32x2x2048x1024, .bf16⟩
  | 73 => ⟨S_, .i32⟩
  | 74 => ⟨S32x2, .i32⟩
  | 75 => ⟨S32x2, .i1⟩
  | 76 => ⟨S_, .i32⟩
  | 77 => ⟨S32x2, .i32⟩
  | 78 => ⟨S32x2, .i32⟩
  | 79 => ⟨S32x2, .i32⟩
  | 80 => ⟨S32x2x1, .i32⟩
  | 81 => ⟨S1, .i32⟩
  | 82 => ⟨S_, .i32⟩
  | 83 => ⟨S32x2x1, .i32⟩
  | 84 => ⟨S32x2x1, .i1⟩
  | 85 => ⟨S1x1x1, .i32⟩
  | 86 => ⟨S32x2x1, .i32⟩
  | 87 => ⟨S32x2x1, .i1⟩
  | 88 => ⟨S32x2x1, .i1⟩
  | 89 => ⟨S_, .i1⟩
  | 90 => ⟨S32x2, .i1⟩
  | 91 => ⟨S32x2x2048, .bf16⟩
  | 92 => ⟨S32x2x2048, .i1⟩
  | 93 => ⟨S_, .bf16⟩
  | 94 => ⟨S32x2x2048, .bf16⟩
  | 95 => ⟨S32x2x2048, .bf16⟩
  | 96 => ⟨S32x2x2048, .f32⟩
  | 97 => ⟨S32x2x2048, .bf16⟩
  | 98 => ⟨S32x2x2048, .bf16⟩
  | 99 => ⟨S32x2x1024, .bf16⟩
  | 100 => ⟨S32x2x1024, .bf16⟩
  | 101 => ⟨S_, .bf16⟩
  | 102 => ⟨S32x2x1024, .bf16⟩
  | 103 => ⟨S32x2x1024, .bf16⟩
  | 104 => ⟨S_, .f32⟩
  | 105 => ⟨S_, .f32⟩
  | 106 => ⟨S_, .bf16⟩
  | 107 => ⟨S32x2x1024, .bf16⟩
  | 108 => ⟨S32x2x1024, .bf16⟩
  | 109 => ⟨S_, .bf16⟩
  | 110 => ⟨S32x2x1024, .bf16⟩
  | 111 => ⟨S32x2x1024, .bf16⟩
  | 112 => ⟨S32x2x1024, .f32⟩
  | 113 => ⟨S_, .f32⟩
  | 114 => ⟨S32x2x1024, .f32⟩
  | 115 => ⟨S32x2x1024, .f32⟩
  | 116 => ⟨S32x2x1024, .bf16⟩
  | 117 => ⟨S32x2x1024, .bf16⟩
  | 118 => ⟨S32x2x1024, .bf16⟩
  | 119 => ⟨S_, .bf16⟩
  | 120 => ⟨S32x2x1024, .bf16⟩
  | 121 => ⟨S32x2x1024, .bf16⟩
  | 122 => ⟨S_, .bf16⟩
  | 123 => ⟨S32x2x1024, .bf16⟩
  | 124 => ⟨S32x2x1024, .bf16⟩
  | 125 => ⟨S32x2x1024, .bf16⟩
  | 126 => ⟨S_, .bf16⟩
  | 127 => ⟨S32x2x1024, .bf16⟩
  | _ => ⟨S32x1024, .bf16⟩

abbrev hbmTy0_1 (i : Nat) : BufTy := match i % 128 with
  | 0 => ⟨S32x2x1024, .bf16⟩
  | 1 => ⟨S32x2x1024, .bf16⟩
  | 2 => ⟨S_, .i32⟩
  | 3 => ⟨S32x2, .i32⟩
  | 4 => ⟨S32x2, .i1⟩
  | 5 => ⟨S_, .i32⟩
  | 6 => ⟨S32x2, .i32⟩
  | 7 => ⟨S32x2, .i32⟩
  | 8 => ⟨S32x2, .i32⟩
  | 9 => ⟨S32x2x1, .i32⟩
  | 10 => ⟨S1, .i32⟩
  | 11 => ⟨S_, .i32⟩
  | 12 => ⟨S32x2x1, .i32⟩
  | 13 => ⟨S32x2x1, .i1⟩
  | 14 => ⟨S1x1x1, .i32⟩
  | 15 => ⟨S32x2x1, .i32⟩
  | 16 => ⟨S32x2x1, .i1⟩
  | 17 => ⟨S32x2x1, .i1⟩
  | 18 => ⟨S_, .i1⟩
  | 19 => ⟨S32x2, .i1⟩
  | 20 => ⟨S32x2x1024x1024, .bf16⟩
  | 21 => ⟨S32x2x1024x1024, .i1⟩
  | 22 => ⟨S_, .bf16⟩
  | 23 => ⟨S32x2x1024x1024, .bf16⟩
  | 24 => ⟨S32x2x1024x1024, .bf16⟩
  | 25 => ⟨S_, .i32⟩
  | 26 => ⟨S32x2, .i32⟩
  | 27 => ⟨S32x2, .i1⟩
  | 28 => ⟨S_, .i32⟩
  | 29 => ⟨S32x2, .i32⟩
  | 30 => ⟨S32x2, .i32⟩
  | 31 => ⟨S32x2, .i32⟩
  | 32 => ⟨S32x2x1, .i32⟩
  | 33 => ⟨S1, .i32⟩
  | 34 => ⟨S_, .i32⟩
  | 35 => ⟨S32x2x1, .i32⟩
  | 36 => ⟨S32x2x1, .i1⟩
  | 37 => ⟨S1x1x1, .i32⟩
  | 38 => ⟨S32x2x1, .i32⟩
  | 39 => ⟨S32x2x1, .i1⟩
  | 40 => ⟨S32x2x1, .i1⟩
  | 41 => ⟨S_, .i1⟩
  | 42 => ⟨S32x2, .i1⟩
  | 43 => ⟨S32x2x1024, .bf16⟩
  | 44 => ⟨S32x2x1024, .i1⟩
  | 45 => ⟨S_, .bf16⟩
  | 46 => ⟨S32x2x1024, .bf16⟩
  | 47 => ⟨S32x2x1024, .bf16⟩
  | 48 => ⟨S32x2x1024, .f32⟩
  | 49 => ⟨S32x2x1024, .bf16⟩
  | 50 => ⟨S32x2x1024, .bf16⟩
  | 51 => ⟨S32x1024, .f32⟩
  | 52 => ⟨S32x1024, .bf16⟩
  | 53 => ⟨S32x1024, .bf16⟩
  | _ => ⟨S32x1024, .bf16⟩

abbrev hbmTy (i : Nat) : BufTy := match i / 128 with
  | 0 => hbmTy0_0 i
  | 1 => hbmTy0_1 i
  | _ => ⟨S32x1024, .bf16⟩

abbrev bufTy : (tb : Table) → Fin (tcTables nBuf tb) → BufTy
  | .hbm, ⟨i, _⟩ => hbmTy i
  | _, _ => ⟨S32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_values : Ref sig .tc := ⟨.hbm, 32, rfl⟩
abbrev main_indices : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v34 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_cst_5 : Ref sig .tc := ⟨.hbm, 101, rfl⟩
abbrev main_v41 : Ref sig .tc := ⟨.hbm, 102, rfl⟩
abbrev main_v42 : Ref sig .tc := ⟨.hbm, 103, rfl⟩
abbrev main_cst_6 : Ref sig .tc := ⟨.hbm, 104, rfl⟩
abbrev main_cst_7 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_v43 : Ref sig .tc := ⟨.hbm, 111, rfl⟩
abbrev main_v44 : Ref sig .tc := ⟨.hbm, 112, rfl⟩
abbrev main_cst_8 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_cst_9 : Ref sig .tc := ⟨.hbm, 119, rfl⟩
abbrev main_v50 : Ref sig .tc := ⟨.hbm, 120, rfl⟩
abbrev main_v51 : Ref sig .tc := ⟨.hbm, 121, rfl⟩
abbrev main_cst_10 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_cst_11 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_call3_c : Ref sig .tc := ⟨.hbm, 130, rfl⟩
abbrev main_call3_v0 : Ref sig .tc := ⟨.hbm, 131, rfl⟩
abbrev main_call3_v1 : Ref sig .tc := ⟨.hbm, 132, rfl⟩
abbrev main_call3_c_0 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_c_1 : Ref sig .tc := ⟨.hbm, 138, rfl⟩
abbrev main_call3_c_2 : Ref sig .tc := ⟨.hbm, 139, rfl⟩
abbrev main_call3_v6 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_c_3 : Ref sig .tc := ⟨.hbm, 146, rfl⟩
abbrev main_call3_v12 : Ref sig .tc := ⟨.hbm, 147, rfl⟩
abbrev main_call3_v13 : Ref sig .tc := ⟨.hbm, 148, rfl⟩
abbrev main_call3_v14 : Ref sig .tc := ⟨.hbm, 149, rfl⟩
abbrev main_call3_cst : Ref sig .tc := ⟨.hbm, 150, rfl⟩
abbrev main_call3_v15 : Ref sig .tc := ⟨.hbm, 151, rfl⟩
abbrev main_v58 : Ref sig .tc := ⟨.hbm, 152, rfl⟩
abbrev main_call4_c : Ref sig .tc := ⟨.hbm, 153, rfl⟩
abbrev main_call4_v0 : Ref sig .tc := ⟨.hbm, 154, rfl⟩
abbrev main_call4_v1 : Ref sig .tc := ⟨.hbm, 155, rfl⟩
abbrev main_call4_c_0 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_call4_v5 : Ref sig .tc := ⟨.hbm, 160, rfl⟩
abbrev main_call4_c_1 : Ref sig .tc := ⟨.hbm, 161, rfl⟩
abbrev main_call4_c_2 : Ref sig .tc := ⟨.hbm, 162, rfl⟩
abbrev main_call4_v6 : Ref sig .tc := ⟨.hbm, 163, rfl⟩
abbrev main_call4_v7 : Ref sig .tc := ⟨.hbm, 164, rfl⟩
abbrev main_call4_v8 : Ref sig .tc := ⟨.hbm, 165, rfl⟩
abbrev main_call4_v9 : Ref sig .tc := ⟨.hbm, 166, rfl⟩
abbrev main_call4_v10 : Ref sig .tc := ⟨.hbm, 167, rfl⟩
abbrev main_call4_v11 : Ref sig .tc := ⟨.hbm, 168, rfl⟩
abbrev main_call4_c_3 : Ref sig .tc := ⟨.hbm, 169, rfl⟩
abbrev main_call4_v12 : Ref sig .tc := ⟨.hbm, 170, rfl⟩
abbrev main_call4_v13 : Ref sig .tc := ⟨.hbm, 171, rfl⟩
abbrev main_call4_v14 : Ref sig .tc := ⟨.hbm, 172, rfl⟩
abbrev main_call4_cst : Ref sig .tc := ⟨.hbm, 173, rfl⟩
abbrev main_call4_v15 : Ref sig .tc := ⟨.hbm, 174, rfl⟩
abbrev main_v59 : Ref sig .tc := ⟨.hbm, 175, rfl⟩
abbrev main_v60 : Ref sig .tc := ⟨.hbm, 176, rfl⟩
abbrev main_v61 : Ref sig .tc := ⟨.hbm, 177, rfl⟩
abbrev main_v62 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩

abbrev nD : Nat := 1
abbrev τ : Topo := Topo.v7x

variable {F : FTy → Type} [FloatOps F]
-- ==== Proof.Step.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.ValueIdx

/-! What one grid point of the kernel does to the five scratch buffers and to the output block, as
plain functions of the blocks it reads. -/

@[expose] public section

set_option maxRecDepth 16384

noncomputable section

namespace Cert.KernelIdeal.Moe

open Idealize.ShloMosaic Idealize.ShloMosaic.ValueIdx Cert.KernelIdeal Cert.KernelIdeal.Gen

variable {F : FTy → Type} [FloatOps F]

/-- The four routing columns side by side: the two experts' numbers, then their two weights. -/
def cols (a b c d : FVec F S32x1 .f32) : Vec F S32x4 .f32 := fun q =>
  (![a, b, c, d] : Fin 4 → FVec F S32x1 .f32) (q 1) (ix2 (q 0) 0)

/-- The normalised tokens, as the routing stores them. -/
def tokens (x0 : Vec F S32x1024 .bf16) (x1 : Vec F S1x1024 .f32) : Vec F S32x1024 .bf16 :=
  k0_pay12 (k0_pay8 x0) (k0_pay9 x0) k0_pay10 x1

/-- The routing table, as the routing stores it. -/
def routes (x0 : Vec F S32x1024 .bf16) (x1 : Vec F S1x1024 .f32) (x2 : Vec F S8x1024 .bf16) (x3 : Vec F S1x8 .bf16) :
    Vec F S32x4 .f32 :=
  cols (k0_pay20 (k0_pay15 (k0_pay8 x0) (k0_pay9 x0) k0_pay10 x1 x2 x3))
    (k0_pay21 (k0_pay18 (k0_pay8 x0) (k0_pay9 x0) k0_pay10 x1 x2 x3))
    (k0_pay22 (k0_pay14 (k0_pay8 x0) (k0_pay9 x0) k0_pay10 x1 x2 x3) (k0_pay17 (k0_pay8 x0) (k0_pay9 x0) k0_pay10 x1 x2 x3))
    (k0_pay23 (k0_pay14 (k0_pay8 x0) (k0_pay9 x0) k0_pay10 x1 x2 x3) (k0_pay17 (k0_pay8 x0) (k0_pay9 x0) k0_pay10 x1 x2 x3))

/-- Column `k` of the routing table. -/
def colOf (r : Vec F S32x4 .f32) (k : Fin 4) : Vec F S32x1 .f32 := fun q => r (ix2 (q 0) k)

/-- The half of the activations one point computes. -/
abbrev mid (t : Vec F S32x1024 .bf16) (x4 : Vec F S1x1024x1024 .bf16) (x5 : Vec F S1x1x1024 .bf16) (s : Vec F S1024x1024 .bf16) :
    FVec F S32x512 .f32 := k0_pay24 t x4 x5 s

/-- What the running sum holds after the first expert (number `e`) is combined. -/
def begun (e : BitVec 32) (h : FVec F S32x512 .f32) (x6 : Vec F S1x1024x512 .bf16) (y : Vec F S32x1024 .f32)
    (x7 : Vec F S1x1x1024 .bf16) (r : Vec F S32x4 .f32) : FVec F S32x1024 .f32 :=
  k0_pay4 e h x6 y x7 (colOf r 0) (colOf r 2) (colOf r 1) (colOf r 3)

/-- What the running sum `a` becomes when expert number `e` is combined. -/
def added (e : BitVec 32) (h : FVec F S32x512 .f32) (x6 : Vec F S1x1024x512 .bf16) (y : Vec F S32x1024 .f32)
    (x7 : Vec F S1x1x1024 .bf16) (r : Vec F S32x4 .f32) (a : Vec F S32x1024 .f32) : FVec F S32x1024 .f32 :=
  k0_pay5 e h x6 y x7 (colOf r 0) (colOf r 2) (colOf r 1) (colOf r 3) a

/-- Column `0` … `3` of four columns side by side are those columns. -/
theorem colOf_cols (a b c d : FVec F S32x1 .f32) (k : Fin 4) : colOf (cols a b c d) k = (![a, b, c, d] : Fin 4 → FVec F S32x1 .f32) k := by
  funext q
  have h : (ix2 (q 0) 0 : S32x1.Idx) = q := by
    funext a; fin_cases a
    · rfl
    · exact Subsingleton.elim (α := Fin 1) _ _
  show (![a, b, c, d] : Fin 4 → FVec F S32x1 .f32) k (ix2 (q 0) 0) = _
  rw [h]

end Cert.KernelIdeal.Moe

end
-- ==== Proof.Body.lean ====
module

public import proofs.«01_k».proof.Proof.Step
public import Idealize.ShloMosaic.Lib.VecWindow
public import Idealize.ShloMosaic.Lib.Tactic

/-! The kernel's operands bundled, what it means that the body at one grid point takes their contents from one
state to another, and how a buffer written column by column reads. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal Cert.KernelIdeal.Gen

variable {F : FTy → Type} [FloatOps F]

local notation "𝕄" => MT nD τ sig Unit (Elt F) ℕ (UR sig nD τ) ℕ

/-- The expert's coordinate is the first and the half's is the first: the routing runs. -/
abbrev onRoute (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The half's coordinate is the first. -/
abbrev onHalf (i : grid0.Coords) : Prop :=
  Scalar.cmpi .ne (Scalar.extui (Scalar.cmpi .eq (BitVec.ofNat 32 (i 1).val) 0#32)) 0#32 = 1#1
/-- The half's coordinate is the last: the expert is combined. -/
abbrev onCombine (i : grid0.Coords) : Prop := k0_cond3 i = 1#1
/-- The expert's coordinate is the first. -/
abbrev onInit (i : grid0.Coords) : Prop :=
  Scalar.cmpi .ne (Scalar.extui (Scalar.cmpi .eq (BitVec.ofNat 32 (i 0).val) 0#32)) 0#32 = 1#1
/-- The expert's coordinate is not the first. -/
abbrev onAccum (i : grid0.Coords) : Prop :=
  Scalar.cmpi .ne (Scalar.extui (Scalar.cmpi .sgt (BitVec.ofNat 32 (i 0).val) 0#32)) 0#32 = 1#1
/-- The expert's coordinate is the last. -/
abbrev onFinish (i : grid0.Coords) : Prop := k0_cond6 i = 1#1

/-- The fourteen operands of the body: eight input blocks, the output block, five scratch buffers. -/
structure Mems where
  arg2 : Memref sig .tc .vmem S32x1024 .bf16
  harg2 : arg2.IsWhole
  arg3 : Memref sig .tc .vmem S1x1024 .f32
  harg3 : arg3.IsWhole
  arg4 : Memref sig .tc .vmem S8x1024 .bf16
  harg4 : arg4.IsWhole
  arg5 : Memref sig .tc .vmem S1x8 .bf16
  harg5 : arg5.IsWhole
  arg6 : Memref sig .tc .vmem S1x1024x1024 .bf16
  harg6 : arg6.IsWhole
  arg7 : Memref sig .tc .vmem S1x1x1024 .bf16
  harg7 : arg7.IsWhole
  arg8 : Memref sig .tc .vmem S1x1024x512 .bf16
  harg8 : arg8.IsWhole
  arg9 : Memref sig .tc .vmem S1x1x1024 .bf16
  harg9 : arg9.IsWhole
  arg10 : Memref sig .tc .vmem S32x1024 .bf16
  harg10 : arg10.IsWhole
  arg11 : Memref sig .tc .vmem S32x1024 .bf16
  harg11 : arg11.IsWhole
  arg12 : Memref sig .tc .vmem S32x4 .f32
  harg12 : arg12.IsWhole
  arg13 : Memref sig .tc .vmem S32x1024 .f32
  harg13 : arg13.IsWhole
  arg14 : Memref sig .tc .vmem S32x1024 .f32
  harg14 : arg14.IsWhole
  arg15 : Memref sig .tc .vmem S1024x1024 .bf16
  harg15 : arg15.IsWhole

/-- The contents of the eight input blocks. -/
structure Blocks (F : FTy → Type) [FloatOps F] where
  x0 : Vec F S32x1024 .bf16
  x1 : Vec F S1x1024 .f32
  x2 : Vec F S8x1024 .bf16
  x3 : Vec F S1x8 .bf16
  x4 : Vec F S1x1024x1024 .bf16
  x5 : Vec F S1x1x1024 .bf16
  x6 : Vec F S1x1024x512 .bf16
  x7 : Vec F S1x1x1024 .bf16

/-- The contents of the output block and of the scratch: the tokens, the routing table, the running sum, the partial
second product and the selector. -/
structure State (F : FTy → Type) [FloatOps F] where
  o : Vec F S32x1024 .bf16
  t : Vec F S32x1024 .bf16
  r : Vec F S32x4 .f32
  a : Vec F S32x1024 .f32
  y : Vec F S32x1024 .f32
  s : Vec F S1024x1024 .bf16

/-- The eight input blocks, each whole at its contents. -/
def ins (c : Dev nD) (M : Mems) (B : Blocks F) : sProp 𝕄 :=
  iprop(owns (c : Thread nD τ) M.arg2 fullShare B.x0 ∗ owns (c : Thread nD τ) M.arg3 fullShare B.x1 ∗ owns (c : Thread nD τ) M.arg4 fullShare B.x2
    ∗ owns (c : Thread nD τ) M.arg5 fullShare B.x3 ∗ owns (c : Thread nD τ) M.arg6 fullShare B.x4 ∗ owns (c : Thread nD τ) M.arg7 fullShare B.x5
    ∗ owns (c : Thread nD τ) M.arg8 fullShare B.x6 ∗ owns (c : Thread nD τ) M.arg9 fullShare B.x7)

/-- The output block and the five scratch buffers, each whole at its contents. -/
def outs (c : Dev nD) (M : Mems) (S : State F) : sProp 𝕄 :=
  iprop(owns (c : Thread nD τ) M.arg10 fullShare S.o ∗ owns (c : Thread nD τ) M.arg11 fullShare S.t ∗ owns (c : Thread nD τ) M.arg12 fullShare S.r
    ∗ owns (c : Thread nD τ) M.arg13 fullShare S.a ∗ owns (c : Thread nD τ) M.arg14 fullShare S.y ∗ owns (c : Thread nD τ) M.arg15 fullShare S.s)

/-- The body at coordinates `i` on the operands `M`, the input blocks at `B`, takes the other buffers from `S` to `S'`. -/
def Runs (c : Dev nD) (i : grid0.Coords) (M : Mems) (B : Blocks F) (S S' : State F) : Prop :=
  ∀ (E : Set ℕ) (K : PUnit → sProp 𝕄),
    iprop(ins c M B ∗ outs c M S ∗ (iprop(ins c M B ∗ outs c M S') -∗ K ⟨⟩))
      ⊢ wp frame (wpE (defs₀ (F := F)) Variants.none c none) E
          (cc0__moe_kernel i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15) K

/-- A buffer at contents that read as `x` is held at some contents that read as `x`. -/
theorem held {sp : Space} {s : Shape} {e : EltTy} (c : Dev nD) (M : Memref sig .tc sp s e) {f : Buf (Elt F) (M.view.loc (c : Thread nD τ))}
    {x : s.Idx → Elt F e} (h : M.view.read (Elt F) f = x) :
    (M.view.loc (c : Thread nD τ) ↦[M.view.set]{fullShare} f : sProp 𝕄)
      ⊢ iprop(∃ f, ⌜M.view.read (Elt F) f = x⌝ ∗ M.view.loc (c : Thread nD τ) ↦[M.view.set]{fullShare} f) := by
  iintro H
  iexists _
  isplitr
  · ipureintro; exact h
  iexact H

/-- A load of one column of the routing table reads that column. -/
theorem readAt_col {sp : Space} (v : View sig .tc sp S32x4 .f32) (f : v.ty.Contents (Elt F)) (k : Fin 4) {off : Fin 2 → ℕ}
    (h : off = ![0, k.val]) (inb : ∀ a, off a + (![32, 1] : Fin 2 → ℕ) a ≤ S32x4.size a) :
    v.readAt (Elt F) (Rect.unit (s := S32x4) off ![32, 1] inb).toLoadRect f = colOf (v.read (Elt F) f) k := by
  subst h
  funext q
  refine congrArg (v.read (Elt F) f) (funext fun a => Fin.ext ?_)
  have hq : (q 1).val = 0 := by have : (q 1).val < 1 := (q 1).isLt; omega
  match a with
  | ⟨0, _⟩ => show 0 + 1 * (q 0).val = (q 0).val; omega
  | ⟨1, _⟩ => show k.val + 1 * (q 1).val = k.val; omega

/-- Four columns stored one after the other leave them side by side. -/
theorem read_cols {sp : Space} (v : View sig .tc sp S32x4 .f32) (f : v.ty.Contents (Elt F)) (w0 w1 w2 w3 : FVec F S32x1 .f32)
    (i0 : ∀ a, (![0, 0] : Fin 2 → ℕ) a + S32x1.size a ≤ S32x4.size a) (i1 : ∀ a, (![0, 1] : Fin 2 → ℕ) a + S32x1.size a ≤ S32x4.size a)
    (i2 : ∀ a, (![0, 2] : Fin 2 → ℕ) a + S32x1.size a ≤ S32x4.size a) (i3 : ∀ a, (![0, 3] : Fin 2 → ℕ) a + S32x1.size a ≤ S32x4.size a) :
    v.read (Elt F) (v.writes (Elt F) f [⟨Rect.unit (s := S32x4) ![0, 3] S32x1.size i3, w3⟩, ⟨Rect.unit (s := S32x4) ![0, 2] S32x1.size i2, w2⟩,
      ⟨Rect.unit (s := S32x4) ![0, 1] S32x1.size i1, w1⟩, ⟨Rect.unit (s := S32x4) ![0, 0] S32x1.size i0, w0⟩]) = cols w0 w1 w2 w3 := by
  funext q
  obtain ⟨b, k, rfl⟩ : ∃ b k, q = ix2 b k := ⟨q 0, q 1, eq_ix2 q⟩
  have at_col (n : Fin 4) (w : FVec F S32x1 .f32) (L : List (View.Piece (Elt F) S32x4 .f32)) (inb : ∀ a, (![0, n.val] : Fin 2 → ℕ) a + S32x1.size a ≤ S32x4.size a) :
      v.read (Elt F) (v.writes (Elt F) f (⟨Rect.unit (s := S32x4) ![0, n.val] S32x1.size inb, w⟩ :: L)) (ix2 b n) = w (ix2 b 0) :=
    View.read_writes_cons_unit_of_mem v f inb w L _ (ix2 b 0) rfl fun a => by
      match a with
      | ⟨0, _⟩ => exact (Nat.zero_add _).symm
      | ⟨1, _⟩ => rfl
  have off_col (n k : Fin 4) (hk : k ≠ n) (w : FVec F S32x1 .f32) (L : List (View.Piece (Elt F) S32x4 .f32)) (inb : ∀ a, (![0, n.val] : Fin 2 → ℕ) a + S32x1.size a ≤ S32x4.size a) :
      v.read (Elt F) (v.writes (Elt F) f (⟨Rect.unit (s := S32x4) ![0, n.val] S32x1.size inb, w⟩ :: L)) (ix2 b k) = v.read (Elt F) (v.writes (Elt F) f L) (ix2 b k) :=
    View.read_writes_cons_unit_of_not_mem v f inb w L _ rfl 1 (by
      show k.val < n.val ∨ n.val + 1 ≤ k.val
      omega)
  match k with
  | 0 => exact (off_col 3 0 (by decide) _ _ i3).trans ((off_col 2 0 (by decide) _ _ i2).trans ((off_col 1 0 (by decide) _ _ i1).trans (at_col 0 _ _ i0)))
  | 1 => exact (off_col 3 1 (by decide) _ _ i3).trans ((off_col 2 1 (by decide) _ _ i2).trans (at_col 1 _ _ i1))
  | 2 => exact (off_col 3 2 (by decide) _ _ i3).trans (at_col 2 _ _ i2)
  | 3 => exact at_col 3 _ _ i3

end Cert.KernelIdeal.Moe

end
-- ==== Proof.RunFirst.lean ====
module

public import proofs.«01_k».proof.Proof.Body

/-! The body at the first half of the first expert, where the routing runs. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal Cert.KernelIdeal.Gen

variable {F : FTy → Type} [FloatOps F]

set_option maxHeartbeats 1600000 in
/-- At the first point the body stores the tokens, the routing table, the selector and the partial second product. -/
theorem run_first (c : Dev nD) (i : grid0.Coords) (M : Mems) (B : Blocks F) (S : State F)
    (h1 : onRoute i) (h2 : onHalf i) (h3 : ¬onCombine i) :
    Runs c i M B S { S with
      t := tokens B.x0 B.x1
      r := routes B.x0 B.x1 B.x2 B.x3
      y := k0_pay2 (mid (tokens B.x0 B.x1) B.x4 B.x5 k0_pay7) B.x6
      s := k0_pay7 } := by
  obtain ⟨arg2, harg2, arg3, harg3, arg4, harg4, arg5, harg5, arg6, harg6, arg7, harg7, arg8, harg8, arg9, harg9,
    arg10, harg10, arg11, harg11, arg12, harg12, arg13, harg13, arg14, harg14, arg15, harg15⟩ := M
  obtain ⟨x0, x1, x2, x3, x4, x5, x6, x7⟩ := B
  obtain ⟨o, t, r, a, y, s⟩ := S
  intro E K
  simp only [cc0__moe_kernel_eq_skeleton]; unfold cc0__moe_kernel_skel
  simp only [k0_part1_eq_skeleton, k0_part2_eq_skeleton, k0_part3_eq_skeleton]
  unfold ins outs
  unfold owns
  dsimp only
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩,
    ⟨⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12; obtain rfl := harg13.eq_unread hf13
  obtain rfl := harg14.eq_unread hf14; obtain rfl := harg15.eq_unread hf15
  sl_exec (disch := first | sl_exact h1 | sl_exact h2 | sl_exact h3)
  sl_step
  iapply Hk
  isplitl [H2 H3 H4 H5 H6 H7 H8 H9]
  · isplitl [H2]; · iapply (held c _ hf2); iexact H2
    isplitl [H3]; · iapply (held c _ hf3); iexact H3
    isplitl [H4]; · iapply (held c _ hf4); iexact H4
    isplitl [H5]; · iapply (held c _ hf5); iexact H5
    isplitl [H6]; · iapply (held c _ hf6); iexact H6
    isplitl [H7]; · iapply (held c _ hf7); iexact H7
    isplitl [H8]; · iapply (held c _ hf8); iexact H8
    iapply (held c _ hf9); iexact H9
  isplitl [H10]; · iapply (held c _ hf10); iexact H10
  isplitl [H11]
  · iexists _; isplitr; swap; · iexact H11
    ipureintro
    sl_unfold_words
    refine (View.read_writes_full (s := S32x1024) _ _ _ _ _).trans ?_
    rw [View.readAt_full (s := S32x1024) arg2.view, hf2, View.readAt_full (s := S1x1024) arg3.view, hf3]
    rfl
  isplitl [H12]
  · iexists _; isplitr; swap; · iexact H12
    ipureintro
    sl_unfold_words
    refine (read_cols arg12.view _ _ _ _ _ _ _ _ _).trans ?_
    rw [View.readAt_full (s := S32x1024) arg2.view, hf2, View.readAt_full (s := S1x1024) arg3.view, hf3,
      View.readAt_full (s := S8x1024) arg4.view, hf4, View.readAt_full (s := S1x8) arg5.view, hf5]
    rfl
  isplitl [H13]; · iapply (held c _ hf13); iexact H13
  isplitl [H14]
  · iexists _; isplitr; swap; · iexact H14
    ipureintro
    sl_unfold_words
    refine (View.read_writes_full (s := S32x1024) _ _ _ _ _).trans ?_
    rw [View.readCov_full (s := S32x1024) arg11.view, View.readCov_full (s := S1024x1024) arg15.view,
      View.readAt_full (s := S32x1024) arg2.view, hf2, View.readAt_full (s := S1x1024) arg3.view, hf3,
      View.readAt_full (s := S1x1024x1024) arg6.view, hf6, View.readAt_full (s := S1x1x1024) arg7.view, hf7,
      View.readAt_full (s := S1x1024x512) arg8.view, hf8]
    rfl
  iexists _; isplitr; swap; · iexact H15
  ipureintro
  sl_unfold_words
  exact View.read_writes_full (s := S1024x1024) _ _ _ _ _

end Cert.KernelIdeal.Moe

end
-- ==== Proof.RunHalf.lean ====
module

public import proofs.«01_k».proof.Proof.Body

/-! The body at the first half of an expert that is not the first. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal Cert.KernelIdeal.Gen

variable {F : FTy → Type} [FloatOps F]

set_option maxHeartbeats 1600000 in
/-- At a later expert's first half the body stores the partial second product and changes nothing else. -/
theorem run_half (c : Dev nD) (i : grid0.Coords) (M : Mems) (B : Blocks F) (S : State F)
    (h1 : ¬onRoute i) (h2 : onHalf i) (h3 : ¬onCombine i) :
    Runs c i M B S { S with y := k0_pay2 (mid S.t B.x4 B.x5 S.s) B.x6 } := by
  obtain ⟨arg2, harg2, arg3, harg3, arg4, harg4, arg5, harg5, arg6, harg6, arg7, harg7, arg8, harg8, arg9, harg9,
    arg10, harg10, arg11, harg11, arg12, harg12, arg13, harg13, arg14, harg14, arg15, harg15⟩ := M
  obtain ⟨x0, x1, x2, x3, x4, x5, x6, x7⟩ := B
  obtain ⟨o, t, r, a, y, s⟩ := S
  intro E K
  simp only [cc0__moe_kernel_eq_skeleton]; unfold cc0__moe_kernel_skel
  simp only [k0_part3_eq_skeleton]
  unfold ins outs
  unfold owns
  dsimp only
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩,
    ⟨⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12; obtain rfl := harg13.eq_unread hf13
  obtain rfl := harg14.eq_unread hf14; obtain rfl := harg15.eq_unread hf15
  sl_exec (disch := first | sl_exact h1 | sl_exact h2 | sl_exact h3)
  sl_step
  iapply Hk
  isplitl [H2 H3 H4 H5 H6 H7 H8 H9]
  · isplitl [H2]; · iapply (held c _ hf2); iexact H2
    isplitl [H3]; · iapply (held c _ hf3); iexact H3
    isplitl [H4]; · iapply (held c _ hf4); iexact H4
    isplitl [H5]; · iapply (held c _ hf5); iexact H5
    isplitl [H6]; · iapply (held c _ hf6); iexact H6
    isplitl [H7]; · iapply (held c _ hf7); iexact H7
    isplitl [H8]; · iapply (held c _ hf8); iexact H8
    iapply (held c _ hf9); iexact H9
  isplitl [H10]; · iapply (held c _ hf10); iexact H10
  isplitl [H11]; · iapply (held c _ hf11); iexact H11
  isplitl [H12]; · iapply (held c _ hf12); iexact H12
  isplitl [H13]; · iapply (held c _ hf13); iexact H13
  isplitl [H14]
  · iexists _; isplitr; swap; · iexact H14
    ipureintro
    sl_unfold_words
    refine (View.read_writes_full (s := S32x1024) _ _ _ _ _).trans ?_
    rw [View.readAt_full (s := S32x1024) arg11.view, hf11, View.readAt_full (s := S1x1024x1024) arg6.view, hf6,
      View.readAt_full (s := S1x1x1024) arg7.view, hf7, View.readAt_full (s := S1024x1024) arg15.view, hf15,
      View.readAt_full (s := S1x1024x512) arg8.view, hf8]
  iapply (held c _ hf15); iexact H15

end Cert.KernelIdeal.Moe

end
-- ==== Proof.RunInit.lean ====
module

public import proofs.«01_k».proof.Proof.Body

/-! The body at the second half of the first expert. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal Cert.KernelIdeal.Gen

variable {F : FTy → Type} [FloatOps F]

set_option maxHeartbeats 1600000 in
/-- At the first expert's second half the body starts the running sum and changes nothing else. -/
theorem run_init (c : Dev nD) (i : grid0.Coords) (M : Mems) (B : Blocks F) (S : State F)
    (h1 : ¬onRoute i) (h2 : ¬onHalf i) (h3 : onCombine i) (h4 : onInit i) (h5 : ¬onAccum i) (h6 : ¬onFinish i) :
    Runs c i M B S { S with a := begun (BitVec.ofNat 32 (i 0).val) (mid S.t B.x4 B.x5 S.s) B.x6 S.y B.x7 S.r } := by
  obtain ⟨arg2, harg2, arg3, harg3, arg4, harg4, arg5, harg5, arg6, harg6, arg7, harg7, arg8, harg8, arg9, harg9,
    arg10, harg10, arg11, harg11, arg12, harg12, arg13, harg13, arg14, harg14, arg15, harg15⟩ := M
  obtain ⟨x0, x1, x2, x3, x4, x5, x6, x7⟩ := B
  obtain ⟨o, t, r, a, y, s⟩ := S
  intro E K
  simp only [cc0__moe_kernel_eq_skeleton]; unfold cc0__moe_kernel_skel
  simp only [k0_part3_eq_skeleton]
  unfold ins outs
  unfold owns
  dsimp only
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩,
    ⟨⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12; obtain rfl := harg13.eq_unread hf13
  obtain rfl := harg14.eq_unread hf14; obtain rfl := harg15.eq_unread hf15
  sl_exec (disch := first | sl_exact h1 | sl_exact h2 | sl_exact h3 | sl_exact h4 | sl_exact h5 | sl_exact h6)
  sl_step
  iapply Hk
  isplitl [H2 H3 H4 H5 H6 H7 H8 H9]
  · isplitl [H2]; · iapply (held c _ hf2); iexact H2
    isplitl [H3]; · iapply (held c _ hf3); iexact H3
    isplitl [H4]; · iapply (held c _ hf4); iexact H4
    isplitl [H5]; · iapply (held c _ hf5); iexact H5
    isplitl [H6]; · iapply (held c _ hf6); iexact H6
    isplitl [H7]; · iapply (held c _ hf7); iexact H7
    isplitl [H8]; · iapply (held c _ hf8); iexact H8
    iapply (held c _ hf9); iexact H9
  isplitl [H10]; · iapply (held c _ hf10); iexact H10
  isplitl [H11]; · iapply (held c _ hf11); iexact H11
  isplitl [H12]; · iapply (held c _ hf12); iexact H12
  isplitl [H13]
  · iexists _; isplitr; swap; · iexact H13
    ipureintro
    sl_unfold_words
    refine (View.read_writes_full (s := S32x1024) _ _ _ _ _).trans ?_
    rw [View.readAt_full (s := S32x1024) arg11.view, hf11, View.readAt_full (s := S1x1024x1024) arg6.view, hf6,
      View.readAt_full (s := S1x1x1024) arg7.view, hf7, View.readAt_full (s := S1024x1024) arg15.view, hf15,
      View.readAt_full (s := S1x1024x512) arg8.view, hf8, View.readAt_full (s := S32x1024) arg14.view, hf14,
      View.readAt_full (s := S1x1x1024) arg9.view, hf9, readAt_col (off := ![0, 0]) arg12.view _ 0 rfl, readAt_col (off := ![0, 1]) arg12.view _ 1 rfl,
      readAt_col (off := ![0, 2]) arg12.view _ 2 rfl, readAt_col (off := ![0, 3]) arg12.view _ 3 rfl, hf12]
    rfl
  isplitl [H14]; · iapply (held c _ hf14); iexact H14
  iapply (held c _ hf15); iexact H15

end Cert.KernelIdeal.Moe

end
-- ==== Proof.RunAccum.lean ====
module

public import proofs.«01_k».proof.Proof.Body

/-! The body at the second half of an expert that is neither the first nor the last. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal Cert.KernelIdeal.Gen

variable {F : FTy → Type} [FloatOps F]

set_option maxHeartbeats 1600000 in
/-- At a middle expert's second half the body adds to the running sum and changes nothing else. -/
theorem run_accum (c : Dev nD) (i : grid0.Coords) (M : Mems) (B : Blocks F) (S : State F)
    (h1 : ¬onRoute i) (h2 : ¬onHalf i) (h3 : onCombine i) (h4 : ¬onInit i) (h5 : onAccum i) (h6 : ¬onFinish i) :
    Runs c i M B S { S with a := added (BitVec.ofNat 32 (i 0).val) (mid S.t B.x4 B.x5 S.s) B.x6 S.y B.x7 S.r S.a } := by
  obtain ⟨arg2, harg2, arg3, harg3, arg4, harg4, arg5, harg5, arg6, harg6, arg7, harg7, arg8, harg8, arg9, harg9,
    arg10, harg10, arg11, harg11, arg12, harg12, arg13, harg13, arg14, harg14, arg15, harg15⟩ := M
  obtain ⟨x0, x1, x2, x3, x4, x5, x6, x7⟩ := B
  obtain ⟨o, t, r, a, y, s⟩ := S
  intro E K
  simp only [cc0__moe_kernel_eq_skeleton]; unfold cc0__moe_kernel_skel
  simp only [k0_part3_eq_skeleton]
  unfold ins outs
  unfold owns
  dsimp only
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩,
    ⟨⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12; obtain rfl := harg13.eq_unread hf13
  obtain rfl := harg14.eq_unread hf14; obtain rfl := harg15.eq_unread hf15
  sl_exec (disch := first | sl_exact h1 | sl_exact h2 | sl_exact h3 | sl_exact h4 | sl_exact h5 | sl_exact h6)
  sl_step
  iapply Hk
  isplitl [H2 H3 H4 H5 H6 H7 H8 H9]
  · isplitl [H2]; · iapply (held c _ hf2); iexact H2
    isplitl [H3]; · iapply (held c _ hf3); iexact H3
    isplitl [H4]; · iapply (held c _ hf4); iexact H4
    isplitl [H5]; · iapply (held c _ hf5); iexact H5
    isplitl [H6]; · iapply (held c _ hf6); iexact H6
    isplitl [H7]; · iapply (held c _ hf7); iexact H7
    isplitl [H8]; · iapply (held c _ hf8); iexact H8
    iapply (held c _ hf9); iexact H9
  isplitl [H10]; · iapply (held c _ hf10); iexact H10
  isplitl [H11]; · iapply (held c _ hf11); iexact H11
  isplitl [H12]; · iapply (held c _ hf12); iexact H12
  isplitl [H13]
  · iexists _; isplitr; swap; · iexact H13
    ipureintro
    sl_unfold_words
    refine (View.read_writes_full (s := S32x1024) _ _ _ _ _).trans ?_
    rw [View.readAt_full (s := S32x1024) arg11.view, hf11, View.readAt_full (s := S1x1024x1024) arg6.view, hf6,
      View.readAt_full (s := S1x1x1024) arg7.view, hf7, View.readAt_full (s := S1024x1024) arg15.view, hf15,
      View.readAt_full (s := S1x1024x512) arg8.view, hf8, View.readAt_full (s := S32x1024) arg14.view, hf14,
      View.readAt_full (s := S1x1x1024) arg9.view, hf9, readAt_col (off := ![0, 0]) arg12.view _ 0 rfl, readAt_col (off := ![0, 1]) arg12.view _ 1 rfl,
      readAt_col (off := ![0, 2]) arg12.view _ 2 rfl, readAt_col (off := ![0, 3]) arg12.view _ 3 rfl, hf12,
      View.readAt_full (s := S32x1024) arg13.view, hf13]
    rfl
  isplitl [H14]; · iapply (held c _ hf14); iexact H14
  iapply (held c _ hf15); iexact H15

end Cert.KernelIdeal.Moe

end
-- ==== Proof.RunFinish.lean ====
module

public import proofs.«01_k».proof.Proof.Body

/-! The body at the second half of the last expert. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal Cert.KernelIdeal.Gen

variable {F : FTy → Type} [FloatOps F]

set_option maxHeartbeats 1600000 in
/-- At the last expert's second half the body adds to the running sum and stores the output. -/
theorem run_finish (c : Dev nD) (i : grid0.Coords) (M : Mems) (B : Blocks F) (S : State F)
    (h1 : ¬onRoute i) (h2 : ¬onHalf i) (h3 : onCombine i) (h4 : ¬onInit i) (h5 : onAccum i) (h6 : onFinish i) :
    Runs c i M B S { S with
      a := added (BitVec.ofNat 32 (i 0).val) (mid S.t B.x4 B.x5 S.s) B.x6 S.y B.x7 S.r S.a
      o := k0_pay6 B.x0 (added (BitVec.ofNat 32 (i 0).val) (mid S.t B.x4 B.x5 S.s) B.x6 S.y B.x7 S.r S.a) } := by
  obtain ⟨arg2, harg2, arg3, harg3, arg4, harg4, arg5, harg5, arg6, harg6, arg7, harg7, arg8, harg8, arg9, harg9,
    arg10, harg10, arg11, harg11, arg12, harg12, arg13, harg13, arg14, harg14, arg15, harg15⟩ := M
  obtain ⟨x0, x1, x2, x3, x4, x5, x6, x7⟩ := B
  obtain ⟨o, t, r, a, y, s⟩ := S
  intro E K
  simp only [cc0__moe_kernel_eq_skeleton]; unfold cc0__moe_kernel_skel
  simp only [k0_part3_eq_skeleton]
  unfold ins outs
  unfold owns
  dsimp only
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩,
    ⟨⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12; obtain rfl := harg13.eq_unread hf13
  obtain rfl := harg14.eq_unread hf14; obtain rfl := harg15.eq_unread hf15
  sl_exec (disch := first | sl_exact h1 | sl_exact h2 | sl_exact h3 | sl_exact h4 | sl_exact h5 | sl_exact h6)
  sl_step
  iapply Hk
  isplitl [H2 H3 H4 H5 H6 H7 H8 H9]
  · isplitl [H2]; · iapply (held c _ hf2); iexact H2
    isplitl [H3]; · iapply (held c _ hf3); iexact H3
    isplitl [H4]; · iapply (held c _ hf4); iexact H4
    isplitl [H5]; · iapply (held c _ hf5); iexact H5
    isplitl [H6]; · iapply (held c _ hf6); iexact H6
    isplitl [H7]; · iapply (held c _ hf7); iexact H7
    isplitl [H8]; · iapply (held c _ hf8); iexact H8
    iapply (held c _ hf9); iexact H9
  isplitl [H10]
  · iexists _; isplitr; swap; · iexact H10
    ipureintro
    sl_unfold_words
    refine (View.read_writes_full (s := S32x1024) _ _ _ _ _).trans ?_
    rw [View.readCov_full (s := S32x1024) arg13.view, View.readAt_full (s := S32x1024) arg2.view, hf2, View.readAt_full (s := S32x1024) arg11.view, hf11, View.readAt_full (s := S1x1024x1024) arg6.view, hf6,
      View.readAt_full (s := S1x1x1024) arg7.view, hf7, View.readAt_full (s := S1024x1024) arg15.view, hf15,
      View.readAt_full (s := S1x1024x512) arg8.view, hf8, View.readAt_full (s := S32x1024) arg14.view, hf14,
      View.readAt_full (s := S1x1x1024) arg9.view, hf9, readAt_col (off := ![0, 0]) arg12.view _ 0 rfl, readAt_col (off := ![0, 1]) arg12.view _ 1 rfl,
      readAt_col (off := ![0, 2]) arg12.view _ 2 rfl, readAt_col (off := ![0, 3]) arg12.view _ 3 rfl, hf12,
      View.readAt_full (s := S32x1024) arg13.view, hf13]
    rfl
  isplitl [H11]; · iapply (held c _ hf11); iexact H11
  isplitl [H12]; · iapply (held c _ hf12); iexact H12
  isplitl [H13]
  · iexists _; isplitr; swap; · iexact H13
    ipureintro
    sl_unfold_words
    refine (View.read_writes_full (s := S32x1024) _ _ _ _ _).trans ?_
    rw [View.readAt_full (s := S32x1024) arg11.view, hf11, View.readAt_full (s := S1x1024x1024) arg6.view, hf6,
      View.readAt_full (s := S1x1x1024) arg7.view, hf7, View.readAt_full (s := S1024x1024) arg15.view, hf15,
      View.readAt_full (s := S1x1024x512) arg8.view, hf8, View.readAt_full (s := S32x1024) arg14.view, hf14,
      View.readAt_full (s := S1x1x1024) arg9.view, hf9, readAt_col (off := ![0, 0]) arg12.view _ 0 rfl, readAt_col (off := ![0, 1]) arg12.view _ 1 rfl,
      readAt_col (off := ![0, 2]) arg12.view _ 2 rfl, readAt_col (off := ![0, 3]) arg12.view _ 3 rfl, hf12,
      View.readAt_full (s := S32x1024) arg13.view, hf13]
    rfl
  isplitl [H14]; · iapply (held c _ hf14); iexact H14
  iapply (held c _ hf15); iexact H15

end Cert.KernelIdeal.Moe

end
-- ==== Proof.Step16.lean ====
module

public import proofs.«01_k».proof.Proof.RunFirst
public import proofs.«01_k».proof.Proof.RunHalf
public import proofs.«01_k».proof.Proof.RunInit
public import proofs.«01_k».proof.Proof.RunAccum
public import proofs.«01_k».proof.Proof.RunFinish
public import proofs.«01_k».proof.Proof.Gen.KernelIdeal.Frame
public import Idealize.ShloMosaic.Lib.WordCmp

/-! What the scratch holds before each of the sixteen grid points, and that every point keeps it so. Point `2e + j`
works on half `j` of expert `e`. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx Cert.KernelIdeal Cert.KernelIdeal.Gen

variable {F : FTy → Type} [FloatOps F]
variable (m : (ℓ : Loc nD τ sig) → Buf (Elt F) ℓ)

/-! ## The conditions at a point -/

/-- The first coordinate of a point is its expert. -/
theorem coord0 (t : Fin cfg0.N) : (grid0.coords t 0).val = t.val / 2 % 8 := Pipeline.Grid.coords_val t 0 (by decide) rfl
/-- The second coordinate of a point is its half. -/
theorem coord1 (t : Fin cfg0.N) : (grid0.coords t 1).val = t.val / 1 % 2 := Pipeline.Grid.coords_val t 1 (by decide) rfl
/-- There are sixteen points. -/
theorem lt16 (t : Fin cfg0.N) : t.val < 16 := Nat.lt_of_lt_of_eq t.isLt N_0

/-- The routing runs at the first point only. -/
theorem onRoute_iff (t : Fin cfg0.N) : onRoute (grid0.coords t) ↔ t.val = 0 := by
  revert t; exact (by decide +kernel : ∀ t : Fin grid0.N, onRoute (grid0.coords t) ↔ t.val = 0)
/-- The first half of an expert is an even point. -/
theorem onHalf_iff (t : Fin cfg0.N) : onHalf (grid0.coords t) ↔ t.val % 2 = 0 := by
  revert t; exact (by decide +kernel : ∀ t : Fin grid0.N, onHalf (grid0.coords t) ↔ t.val % 2 = 0)
/-- The second half of an expert is an odd point. -/
theorem onCombine_iff (t : Fin cfg0.N) : onCombine (grid0.coords t) ↔ t.val % 2 = 1 := by
  revert t; exact (by decide +kernel : ∀ t : Fin grid0.N, onCombine (grid0.coords t) ↔ t.val % 2 = 1)
/-- The first expert's points are the first two. -/
theorem onInit_iff (t : Fin cfg0.N) : onInit (grid0.coords t) ↔ t.val < 2 := by
  revert t; exact (by decide +kernel : ∀ t : Fin grid0.N, onInit (grid0.coords t) ↔ t.val < 2)
/-- The other experts' points are the rest. -/
theorem onAccum_iff (t : Fin cfg0.N) : onAccum (grid0.coords t) ↔ 2 ≤ t.val := by
  revert t; exact (by decide +kernel : ∀ t : Fin grid0.N, onAccum (grid0.coords t) ↔ 2 ≤ t.val)
/-- The last expert's points are the last two. -/
theorem onFinish_iff (t : Fin cfg0.N) : onFinish (grid0.coords t) ↔ 14 ≤ t.val := by
  revert t; exact (by decide +kernel : ∀ t : Fin grid0.N, onFinish (grid0.coords t) ↔ 14 ≤ t.val)

/-! ## The operands and the contents at a point -/

/-- The operands at point `t`: the current staging buffers, then the scratch. -/
def memsAt (t : Fin cfg0.N) : Mems where
  arg2 := win0_0.stage (cfg0.slots t 0)
  harg2 := hstage0_0 ((cfg0.slots t 0).cast nbuf0_0)
  arg3 := win0_1.stage (cfg0.slots t 1)
  harg3 := hstage0_1 ((cfg0.slots t 1).cast nbuf0_1)
  arg4 := win0_2.stage (cfg0.slots t 2)
  harg4 := hstage0_2 ((cfg0.slots t 2).cast nbuf0_2)
  arg5 := win0_3.stage (cfg0.slots t 3)
  harg5 := hstage0_3 ((cfg0.slots t 3).cast nbuf0_3)
  arg6 := win0_4.stage (cfg0.slots t 4)
  harg6 := hstage0_4 ((cfg0.slots t 4).cast nbuf0_4)
  arg7 := win0_5.stage (cfg0.slots t 5)
  harg7 := hstage0_5 ((cfg0.slots t 5).cast nbuf0_5)
  arg8 := win0_6.stage (cfg0.slots t 6)
  harg8 := hstage0_6 ((cfg0.slots t 6).cast nbuf0_6)
  arg9 := win0_7.stage (cfg0.slots t 7)
  harg9 := hstage0_7 ((cfg0.slots t 7).cast nbuf0_7)
  arg10 := win0_8.stage (cfg0.slots t 8)
  harg10 := hstage0_8 ((cfg0.slots t 8).cast nbuf0_8)
  arg11 := Memref.whole cc0_scratch0
  harg11 := Memref.isWhole_whole _
  arg12 := Memref.whole cc0_scratch1
  harg12 := Memref.isWhole_whole _
  arg13 := Memref.whole cc0_scratch2
  harg13 := Memref.isWhole_whole _
  arg14 := Memref.whole cc0_scratch3
  harg14 := Memref.isWhole_whole _
  arg15 := Memref.whole cc0_scratch4
  harg15 := Memref.isWhole_whole _

/-- The input blocks at point `t`. -/
def blocksAt (c : Dev nD) (t : Fin cfg0.N) : Blocks F where
  x0 := iblk m c 0 t
  x1 := iblk m c 1 t
  x2 := iblk m c 2 t
  x3 := iblk m c 3 t
  x4 := iblk m c 4 t
  x5 := iblk m c 5 t
  x6 := iblk m c 6 t
  x7 := iblk m c 7 t

/-- Point number `n` (counted round). -/
def pt (n : ℕ) : Fin cfg0.N := ⟨n % 16, Nat.lt_of_lt_of_eq (Nat.mod_lt _ (by decide)) N_0.symm⟩

/-- A point is the point of its own number. -/
theorem pt_val (t : Fin cfg0.N) : pt t.val = t := Fin.ext (Nat.mod_eq_of_lt (lt16 t))

/-- The tokens, normalised. -/
def tok (c : Dev nD) : Vec F S32x1024 .bf16 := tokens (blocksAt m c (pt 0)).x0 (blocksAt m c (pt 0)).x1

/-- The routing table. -/
def route (c : Dev nD) : Vec F S32x4 .f32 :=
  routes (blocksAt m c (pt 0)).x0 (blocksAt m c (pt 0)).x1 (blocksAt m c (pt 0)).x2 (blocksAt m c (pt 0)).x3

/-- The hidden units of point `n`'s half. -/
def hidden (c : Dev nD) (n : ℕ) : FVec F S32x512 .f32 := mid (tok m c) (blocksAt m c (pt n)).x4 (blocksAt m c (pt n)).x5 k0_pay7

/-- The partial second product stored at point `n`. -/
def part (c : Dev nD) (n : ℕ) : FVec F S32x1024 .f32 := k0_pay2 (hidden m c n) (blocksAt m c (pt n)).x6

/-- The running sum once expert `e` is combined. -/
def total (c : Dev nD) : ℕ → Vec F S32x1024 .f32
  | 0 => begun (BitVec.ofNat 32 0) (hidden m c 1) (blocksAt m c (pt 1)).x6 (part m c 0) (blocksAt m c (pt 1)).x7 (route m c)
  | e + 1 => added (BitVec.ofNat 32 (e + 1)) (hidden m c (2 * (e + 1) + 1)) (blocksAt m c (pt (2 * (e + 1) + 1))).x6
      (part m c (2 * (e + 1))) (blocksAt m c (pt (2 * (e + 1) + 1))).x7 (route m c) (total c e)

/-- What holds before point `n`: after the first point the tokens, the table and the selector are in place and the partial
product is the last even point's; after the second the running sum is that of the experts combined so far. -/
structure Inv (c : Dev nD) (n : ℕ) (S : State F) : Prop where
  t : 1 ≤ n → S.t = tok m c
  r : 1 ≤ n → S.r = route m c
  s : 1 ≤ n → S.s = k0_pay7
  y : 1 ≤ n → S.y = part m c (2 * ((n - 1) / 2))
  a : 2 ≤ n → S.a = total m c (n / 2 - 1)

/-- Every point keeps the invariant; all but the last leave the output block alone, and the last stores the residual sum. -/
theorem step (c : Dev nD) (t : Fin cfg0.N) (S : State F) (h : Inv m c t.val S) :
    ∃ S', Runs c (grid0.coords t) (memsAt t) (blocksAt m c t) S S' ∧ Inv m c (t.val + 1) S' ∧ (t.val ≠ 15 → S'.o = S.o)
      ∧ (t.val = 15 → S'.o = k0_pay6 (blocksAt m c t).x0 (total m c 7)) := by
  have hlt := lt16 t
  have hpt := pt_val t
  rcases Nat.mod_two_eq_zero_or_one t.val with h2 | h2
  · by_cases h0 : t.val = 0
    · have hp0 : pt 0 = t := by rw [← h0]; exact hpt
      refine ⟨_, run_first c _ (memsAt t) (blocksAt m c t) S ((onRoute_iff t).2 h0) ((onHalf_iff t).2 h2)
        (fun h => by have := (onCombine_iff t).1 h; omega), ?_, fun _ => rfl, fun _ => by omega⟩
      rw [h0]
      refine ⟨fun _ => ?_, fun _ => ?_, fun _ => rfl, fun _ => ?_, fun h => by omega⟩
      · show _ = tok m c; unfold tok; rw [hp0]
      · show _ = route m c; unfold route; rw [hp0]
      · show _ = part m c 0; unfold part hidden tok; rw [hp0]
    · refine ⟨_, run_half c _ (memsAt t) (blocksAt m c t) S (fun h => h0 ((onRoute_iff t).1 h)) ((onHalf_iff t).2 h2)
        (fun h => by have := (onCombine_iff t).1 h; omega), ?_, fun _ => rfl, fun _ => by omega⟩
      refine ⟨fun _ => h.t (by omega), fun _ => h.r (by omega), fun _ => h.s (by omega), fun _ => ?_, fun _ => ?_⟩
      · rw [show 2 * ((t.val + 1 - 1) / 2) = t.val by omega]
        show k0_pay2 (mid S.t _ _ S.s) _ = part m c t.val
        unfold part hidden; rw [hpt, h.t (by omega), h.s (by omega)]
      · rw [show (t.val + 1) / 2 - 1 = t.val / 2 - 1 by omega]
        exact h.a (by omega)
  · have n1 : ¬onRoute (grid0.coords t) := fun h => by have := (onRoute_iff t).1 h; omega
    have n2 : ¬onHalf (grid0.coords t) := fun h => by have := (onHalf_iff t).1 h; omega
    have n3 := (onCombine_iff t).2 h2
    have hc0 := coord0 t
    have hy : S.y = part m c (t.val - 1) := (h.y (by omega)).trans (by rw [show 2 * ((t.val - 1) / 2) = t.val - 1 by omega])
    by_cases h1 : t.val = 1
    · have hp1 : pt 1 = t := by rw [← h1]; exact hpt
      refine ⟨_, run_init c _ (memsAt t) (blocksAt m c t) S n1 n2 n3 ((onInit_iff t).2 (by omega))
        (fun h => by have := (onAccum_iff t).1 h; omega) (fun h => by have := (onFinish_iff t).1 h; omega), ?_, fun _ => rfl, fun _ => by omega⟩
      refine ⟨fun _ => h.t (by omega), fun _ => h.r (by omega), fun _ => h.s (by omega), fun _ => ?_, fun _ => ?_⟩
      · rw [show 2 * ((t.val + 1 - 1) / 2) = t.val - 1 by omega]; exact hy
      · rw [show (t.val + 1) / 2 - 1 = 0 by omega]
        show begun _ (mid S.t _ _ S.s) _ S.y _ S.r = total m c 0
        rw [hy, h.t (by omega), h.s (by omega), h.r (by omega), hc0]
        unfold total hidden; rw [hp1, h1]
    · obtain ⟨e, he⟩ : ∃ e, t.val = 2 * (e + 1) + 1 := ⟨t.val / 2 - 1, by omega⟩
      have hpe : pt (2 * (e + 1) + 1) = t := by rw [← he]; exact hpt
      have hadd : added (BitVec.ofNat 32 (grid0.coords t 0).val) (mid S.t (blocksAt m c t).x4 (blocksAt m c t).x5 S.s) (blocksAt m c t).x6 S.y
          (blocksAt m c t).x7 S.r S.a = total m c (e + 1) := by
        rw [hy, h.t (by omega), h.s (by omega), h.r (by omega), h.a (by omega), hc0, show t.val / 2 - 1 = e by omega,
          show t.val / 2 % 8 = e + 1 by omega, show t.val - 1 = 2 * (e + 1) by omega]
        conv_rhs => unfold total hidden
        rw [hpe]
      by_cases h15 : t.val = 15
      · refine ⟨_, run_finish c _ (memsAt t) (blocksAt m c t) S n1 n2 n3 (fun h => by have := (onInit_iff t).1 h; omega)
          ((onAccum_iff t).2 (by omega)) ((onFinish_iff t).2 (by omega)), ?_, fun h => absurd h15 h, fun _ => ?_⟩
        · refine ⟨fun _ => h.t (by omega), fun _ => h.r (by omega), fun _ => h.s (by omega), fun _ => ?_, fun _ => ?_⟩
          · rw [show 2 * ((t.val + 1 - 1) / 2) = t.val - 1 by omega]; exact hy
          · rw [show (t.val + 1) / 2 - 1 = e + 1 by omega]; exact hadd
        · show k0_pay6 _ (added _ _ _ _ _ _ _) = _
          rw [hadd, show e + 1 = 7 by omega]
      · refine ⟨_, run_accum c _ (memsAt t) (blocksAt m c t) S n1 n2 n3 (fun h => by have := (onInit_iff t).1 h; omega)
          ((onAccum_iff t).2 (by omega)) (fun h => by have := (onFinish_iff t).1 h; omega), ?_, fun _ => rfl, fun h => absurd h h15⟩
        refine ⟨fun _ => h.t (by omega), fun _ => h.r (by omega), fun _ => h.s (by omega), fun _ => ?_, fun _ => ?_⟩
        · rw [show 2 * ((t.val + 1 - 1) / 2) = t.val - 1 by omega]; exact hy
        · rw [show (t.val + 1) / 2 - 1 = e + 1 by omega]; exact hadd

end Cert.KernelIdeal.Moe

end
-- ==== Proof.Launched.lean ====
module

public import proofs.«01_k».proof.Proof.Step16
public import Idealize.ShloMosaic.Lib.Pipeline.Frame
public import Idealize.ShloMosaic.Lib.Pipeline.FrameBody
public import Idealize.ShloMosaic.Lib.Claim

/-! The kernel's run at any values: it ends, leaves the arguments as they were, and leaves in the result array the block
the last point stores. -/

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The five scratch buffers at the contents `S` names. -/
def scratch (c : Dev nD) (S : State F) : sProp 𝕄 :=
  iprop(owns (c : Thread nD τ) (Memref.whole cc0_scratch0) fullShare S.t ∗ owns (c : Thread nD τ) (Memref.whole cc0_scratch1) fullShare S.r
    ∗ owns (c : Thread nD τ) (Memref.whole cc0_scratch2) fullShare S.a ∗ owns (c : Thread nD τ) (Memref.whole cc0_scratch3) fullShare S.y
    ∗ owns (c : Thread nD τ) (Memref.whole cc0_scratch4) fullShare S.s)

/-- Before point `n`: the scratch at contents of which the invariant holds, and the generator register at something. -/
def Phi (c : Dev nD) (n : ℕ) : sProp 𝕄 :=
  iprop(∃ S : State F, ⌜Inv m c n S⌝ ∗ scratch c S ∗ (∃ r, prngReg c r))

/-- What the launch hands to the points, spelled out. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d)) ∗ (∃ r, prngReg c r)) := by
  unfold Pipeline.ΦA; rw [scopedRest0_eq]; simp only [owns_whole]; try rfl

/-- The block the last point stores. -/
def outBlock (c : Dev nD) : Vec F S32x1024 .bf16 := k0_pay6 (blocksAt m c (pt 15)).x0 (total m c 7)

/-- The pipeline's data: the inputs stay at their blocks, the output's buffer ends at the last point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock m c
  Φ t := Phi m c t.val
  q _ := fullShare
  owed _ := 0

/-- The arrays at the start are what the host left. -/
theorem A_eq (c : Dev nD) (w : Fin cfg0.W) : (dats m 0 c).A w = V m c (Pipeline.arrRef spec0 w) := by
  dsimp only [dats]

/-- What holds before a point. -/
theorem Phi_castSucc (c : Dev nD) (t : Fin cfg0.N) : (dats m 0 c).Φ t.castSucc = Phi m c t.val := by
  dsimp only [dats]; rfl

/-- What holds after a point. -/
theorem Phi_succ (c : Dev nD) (t : Fin cfg0.N) : (dats m 0 c).Φ t.succ = Phi m c (t.val + 1) := by
  dsimp only [dats]; rfl

/-- Input 0 stays at its block. -/
theorem after0 (c : Dev nD) (t : Fin cfg0.N) : (dats m 0 c).after 0 t = iblk m c 0 t := by dsimp only [dats]
/-- Input 1 stays at its block. -/
theorem after1 (c : Dev nD) (t : Fin cfg0.N) : (dats m 0 c).after 1 t = iblk m c 1 t := by dsimp only [dats]
/-- Input 2 stays at its block. -/
theorem after2 (c : Dev nD) (t : Fin cfg0.N) : (dats m 0 c).after 2 t = iblk m c 2 t := by dsimp only [dats]
/-- Input 3 stays at its block. -/
theorem after3 (c : Dev nD) (t : Fin cfg0.N) : (dats m 0 c).after 3 t = iblk m c 3 t := by dsimp only [dats]
/-- Input 4 stays at its block. -/
theorem after4 (c : Dev nD) (t : Fin cfg0.N) : (dats m 0 c).after 4 t = iblk m c 4 t := by dsimp only [dats]
/-- Input 5 stays at its block. -/
theorem after5 (c : Dev nD) (t : Fin cfg0.N) : (dats m 0 c).after 5 t = iblk m c 5 t := by dsimp only [dats]
/-- Input 6 stays at its block. -/
theorem after6 (c : Dev nD) (t : Fin cfg0.N) : (dats m 0 c).after 6 t = iblk m c 6 t := by dsimp only [dats]
/-- Input 7 stays at its block. -/
theorem after7 (c : Dev nD) (t : Fin cfg0.N) : (dats m 0 c).after 7 t = iblk m c 7 t := by dsimp only [dats]
/-- The output ends at the last point's block. -/
theorem after8 (c : Dev nD) (t : Fin cfg0.N) : (dats m 0 c).after 8 t = outBlock m c := by dsimp only [dats]

/-- An input window, live at every point, is left at what the data says. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The output window idles at every point but the last. -/
theorem idle8 : ∀ t : Fin cfg0.N, t.val ≠ 15 → cfg0.idle 8 (cfg0.grid.coords t) = true :=
  (by decide +kernel : ∀ t : Fin grid0.N, t.val ≠ 15 → idle0 8 (grid0.coords t) = true)
/-- The output window is live at the last point. -/
theorem live8 : ∀ t : Fin cfg0.N, t.val = 15 → cfg0.idle 8 (cfg0.grid.coords t) = false :=
  (by decide +kernel : ∀ t : Fin grid0.N, t.val = 15 → idle0 8 (grid0.coords t) = false)

/-- Nothing is written back before the last point. -/
theorem noflush8 (t : Fin cfg0.N) (h : t.val ≠ 15) : (cfg0.win 8).flush t = false := by
  rw [Bool.eq_false_iff]
  intro hf
  have := (flush0_8 t).1 hf
  have := lt16 t
  omega

/-- What the body is given at point `t`, buffer by buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body gives back at point `t`. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t)

/-- The output block a point leaves is what the pipeline expects of it. -/
theorem leaves8 (c : Dev nD) (t : Fin cfg0.N) (d) (o : Vec F S32x1024 .bf16)
    (h : t.val ≠ 15 → o = (dats m 0 c).before 8 t d) (h' : t.val = 15 → o = outBlock m c) :
    owns (c : Thread nD τ) (st0_8 t) fullShare o ⊢ ((dats m 0 c).leavesExact 8 t : sProp 𝕄) := by
  by_cases h15 : t.val = 15
  · rw [leaves_live m c 8 t (live8 t h15), after8, h' h15]
  · rw [Dat.leavesExact_idle (dats m 0 c) 8 t (idle8 t h15) (noflush8 t h15), h h15]
    iintro H
    iexists d
    iexact H

set_option maxHeartbeats 1600000 in
/-- The body at any point takes what the pipeline gives to what it expects. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c), before0_5_of m (dats m 0 c) (A_eq m c 5) (after5 m c),
    before0_6_of m (dats m 0 c) (A_eq m c 6) (after6 m c), before0_7_of m (dats m 0 c) (A_eq m c 7) (after7 m c)]
  rw [show (dats m 0 c).owesAt () t.succ = (dats m 0 c).owesAt () t.castSucc from rfl, Phi_castSucc, Phi_succ,
    leaves_live m c 0 t rfl, leaves_live m c 1 t rfl, leaves_live m c 2 t rfl, leaves_live m c 3 t rfl,
    leaves_live m c 4 t rfl, leaves_live m c 5 t rfl, leaves_live m c 6 t rfl, leaves_live m c 7 t rfl,
    after0, after1, after2, after3, after4, after5, after6, after7]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold Phi scratch
  icases HP with ⟨%S, %hS, ⟨HS0, HS1, HS2, HS3, HS4⟩, Hg⟩
  obtain ⟨S', hrun, hinv, hkeep, hlast⟩ := step m c t { S with o := (dats m 0 c).before 8 t d8 } ⟨hS.t, hS.r, hS.s, hS.y, hS.a⟩
  iapply (hrun Set.univ (fun _ => _))
  unfold ins outs
  dsimp only [memsAt, blocksAt]
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 HS0 HS1 HS2 HS3 HS4]
  · isplitl [H8]; · iexact H8
    isplitl [HS0]; · iexact HS0
    isplitl [HS1]; · iexact HS1
    isplitl [HS2]; · iexact HS2
    isplitl [HS3]; · iexact HS3
    iexact HS4
  iintro ⟨⟨H0, H1, H2, H3, H4, H5, H6, H7⟩, ⟨H8, HS0, HS1, HS2, HS3, HS4⟩⟩
  isplitl [HS0 HS1 HS2 HS3 HS4 Hg]
  · iexists S'
    isplitr
    · ipureintro; exact hinv
    isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (leaves8 m c t d8 S'.o hkeep (fun h => (hlast h).trans (by
    unfold outBlock; rw [show pt 15 = t by rw [← h]; exact pt_val t])))
  iexact H8

/-- The body that a point runs. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Any scratch contents will do before the first point. -/
theorem hin (c : Dev nD) : Pipeline.ΦA spec0 c ⊢ (dats m 0 c).Φ 0 := by
  rw [show (dats m 0 c).Φ 0 = Phi m c 0 from rfl, PhiA_eq]
  unfold Phi scratch
  iintro ⟨⟨⟨%t, HS0⟩, ⟨%r, HS1⟩, ⟨%a, HS2⟩, ⟨%y, HS3⟩, ⟨%s, HS4⟩⟩, Hg⟩
  iexists (State.mk t t r a y s)
  isplitr
  · ipureintro
    exact ⟨fun h => by omega, fun h => by omega, fun h => by omega, fun h => by omega, fun h => by omega⟩
  isplitl [HS0 HS1 HS2 HS3 HS4]
  · isplitl [HS0]; · iexact HS0
    isplitl [HS1]; · iexact HS1
    isplitl [HS2]; · iexact HS2
    isplitl [HS3]; · iexact HS3
    iexact HS4
  iexact Hg

/-- The scratch is given back at whatever it holds. -/
theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi scratch
  iintro ⟨%S, %hS, ⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
/-- Every execution ends with the arrays as the data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_arrays : θ_run defs (onTc (τ := τ) (main (F := F))) (s₀ m ρ) (Pipeline.FramePost cfgs (dats m) 0 (V m)) :=
  (θ_run defs _ _).mono (fun _ h => h.1) (run_quiet m ρ)

/-- Every execution ends with the arguments unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_arrays m ρ)) ((θ_run defs _ _).mono (fun _ h => h.2) (run_quiet m ρ))

/-- The output window is the whole array. -/
theorem index8 (t : Fin cfg0.N) : win0_8.index t = ![0, 0] := by
  revert t; exact (by decide +kernel : ∀ t : Fin grid0.N, win0_8.index t = ![0, 0])

/-- The last point's block is the whole result array. -/
theorem result_eq (c : Dev nD) : (dats m 0 c).arrAt 8 cfg0.N = outBlock m c :=
  (dats m 0 c).arrAt_eq_of_cover 8 _
    (fun t _ => by
      show (cfg0.win 8).cut (grid0.coords t) ((dats m 0 c).after 8 t) = _
      rw [after8]
      funext y
      refine congrArg (outBlock m c) (funext fun a => Fin.ext ?_)
      match a with
      | ⟨0, _⟩ => show (y 0).val = win0_8.index t (0 : Fin 2) * 32 + 1 * (y 0).val; rw [index8]; show _ = 0 * 32 + _; omega
      | ⟨1, _⟩ => show (y 1).val = win0_8.index t (1 : Fin 2) * 1024 + 1 * (y 1).val; rw [index8]; show _ = 0 * 1024 + _; omega)
    (fun i => ⟨pt 15, (flush0_8 (pt 15)).2 rfl, by
      show i ∈ ((View.whole main_v0).slice (win0_8.rect (pt 15))).set
      rw [View.set_slice_whole, Rect.mem_set_unit]
      show ∀ a : Fin 2, win0_8.index (pt 15) a * S32x1024.size a ≤ (i a).val ∧ (i a).val < win0_8.index (pt 15) a * S32x1024.size a + S32x1024.size a
      intro a
      rw [index8]
      have h0 : (i 0).val < 32 := (i 0).isLt
      have h1 : (i 1).val < 1024 := (i 1).isLt
      match a with
      | ⟨0, _⟩ => show 0 * 32 ≤ (i 0).val ∧ (i 0).val < 0 * 32 + 32; omega
      | ⟨1, _⟩ => show 0 * 1024 ≤ (i 1).val ∧ (i 1).val < 0 * 1024 + 1024; omega⟩)

/-- Every execution ends with the last point's block in the result array and the arguments unchanged. -/
theorem run_value : θ_run defs (onTc (τ := τ) (main (F := F))) ⟨m, fun _ => 0, ρ⟩ (fun r => ∀ c : Dev nD,
      r.2.mem ((c.tc : Thread nD τ).loc main_v0) = outBlock m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 8).trans (result_eq m c), h.2.1 c⟩)
    (θ_run_and (run_arrays m ρ) (frame_all m ρ))

end Cert.KernelIdeal.Moe

end
-- ==== Proof.Twin.lean ====
module

public import proofs.«01_k».proof.Proof.Launched
public import proofs.«01_k».proof.Proof.Gen.Kernel.Frame

/-! The kernel as printed and its idealization are one program: the same text at any values. -/

@[expose] public section

set_option maxRecDepth 16384

noncomputable section

namespace Cert.KernelIdeal.Moe

open Idealize.ShloMosaic Idealize.SL.Sem

variable {F : FTy → Type} [FloatOps F]

/-- The two entry programs are one. -/
theorem main_eq (c : Dev Cert.Kernel.nD) : Cert.Kernel.main (F := F) c = Cert.KernelIdeal.main (F := F) c := by rfl

/-- The two kernel bodies are one. -/
theorem defs0_eq : Cert.Kernel.defs₀ (F := F) = Cert.KernelIdeal.defs₀ (F := F) := by
  unfold Cert.Kernel.defs₀ Cert.KernelIdeal.defs₀
  congr 1
  funext l
  match l with
  | 0 => rfl

/-- The two tables of bodies are one. -/
theorem defs_eq : Cert.Kernel.defs (F := F) = Cert.KernelIdeal.defs (F := F) := by
  unfold Cert.Kernel.defs Cert.KernelIdeal.defs
  rw [defs0_eq]
  rfl

end Cert.KernelIdeal.Moe

end
-- ==== Proof.Plain.lean ====
module

public import Idealize.ShloMosaic.Lib.Pointwise

/-! The mixture of experts as plain sums over extended reals: the normalised tokens, the routing scores, the gated
hidden units, one expert's answer. -/

@[expose] public section

noncomputable section

namespace Cert.Moe

open Idealize.ShloMosaic

/-- A token's row over its root mean square, times the scale. -/
def scaled (x g : Fin 1024 → EReal) (k : Fin 1024) : EReal :=
  x k * Ideal.rsqrt (Ideal.div (∑ q, x q * x q) (Ideal.ofBits .f32 0x44800000#32) + Ideal.ofBits .f32 0x3727C5AC#32) * g k

/-- A token's score for each expert. -/
def score (t : Fin 1024 → EReal) (w : Fin 8 → Fin 1024 → EReal) (b : Fin 8 → EReal) (e : Fin 8) : EReal :=
  ∑ k, t k * w e k + b e

/-- One unit of an expert's first product, with its bias. -/
def unit (t w : Fin 1024 → EReal) (b : EReal) : EReal := ∑ k, t k * w k + b

/-- The clamped gated unit. -/
def gated (u v : EReal) : EReal :=
  min u (Ideal.ofBits .f32 0x40E00000#32)
      * Ideal.div (1)
          (1 + Ideal.exp (Ideal.ofBits .f32 0xBFD9DB23#32 * min u (Ideal.ofBits .f32 0x40E00000#32)))
    * (min (Ideal.ofBits .f32 0x40E00000#32) (max (Ideal.ofBits .f32 0xC0E00000#32) v) + 1)

/-- The even one of a pair of rows. -/
def even (c : Fin 1024) : Fin 2048 := ⟨2 * c.val, by omega⟩
/-- The odd one of a pair of rows. -/
def odd (c : Fin 1024) : Fin 2048 := ⟨2 * c.val + 1, by omega⟩

/-- An expert's hidden unit `c`: the gated pair of rows `2c` and `2c + 1`. -/
def hiddenAt (t : Fin 1024 → EReal) (w : Fin 2048 → Fin 1024 → EReal) (b : Fin 2048 → EReal) (c : Fin 1024) : EReal :=
  gated (unit t (w (even c)) (b (even c))) (unit t (w (odd c)) (b (odd c)))

/-- An expert's answer at `d`. -/
def answer (a : Fin 1024 → EReal) (w : Fin 1024 → Fin 1024 → EReal) (b : Fin 1024 → EReal) (d : Fin 1024) : EReal :=
  ∑ c, a c * w d c + b d

end Cert.Moe
-- ==== Proof.Pick.lean ====
module

public import Idealize.ShloMosaic.Lib.Pointwise

/-! The two best of eight scores, the lower index first among equals: by a stable sort, and by two passes of a maximum
and the least index that attains it. -/

@[expose] public section

noncomputable section

namespace Cert.Moe

open Idealize.ShloMosaic

/-- Index `i` is the best under `g` of those that satisfy `p`: none scores more, and none before it scores as much. -/
structure Best {n : ℕ} (g : Fin n → EReal) (p : Fin n → Prop) (i : Fin n) : Prop where
  mem : p i
  le : ∀ j, p j → g j ≤ g i
  lt : ∀ j, p j → j < i → g j < g i

/-- There is at most one best index. -/
theorem Best.unique {n : ℕ} {g : Fin n → EReal} {p : Fin n → Prop} {i j : Fin n} (hi : Best g p i) (hj : Best g p j) : i = j := by
  rcases lt_trichotomy i j with h | h | h
  · exact absurd (hj.lt i hi.mem h) (not_lt.2 (hi.le j hj.mem))
  · exact h
  · exact absurd (hi.lt j hj.mem h) (not_lt.2 (hj.le i hi.mem))

/-- The order a stable sort leaves: the greater first, and of equals the one that came first. -/
def Ahead {n : ℕ} (g : Fin n → EReal) (a b : Fin n) : Prop := g b < g a ∨ (g a = g b ∧ a < b)

/-- Ahead of one that is ahead is ahead. -/
theorem Ahead.trans {n : ℕ} {g : Fin n → EReal} {a b c : Fin n} (h : Ahead g a b) (h' : Ahead g b c) : Ahead g a c := by
  rcases h with h | ⟨h, k⟩ <;> rcases h' with h' | ⟨h', k'⟩
  · exact .inl (h'.trans h)
  · exact .inl (h' ▸ h)
  · exact .inl (h.symm ▸ h')
  · exact .inr ⟨h.trans h', k.trans k'⟩

/-- One that is ahead has no smaller score. -/
theorem Ahead.le {n : ℕ} {g : Fin n → EReal} {a b : Fin n} (h : Ahead g a b) : g b ≤ g a := by
  rcases h with h | ⟨h, -⟩
  · exact h.le
  · exact h.ge

/-- One that is ahead of an earlier one has the greater score. -/
theorem Ahead.lt {n : ℕ} {g : Fin n → EReal} {a b : Fin n} (h : Ahead g a b) (hba : b < a) : g b < g a := by
  rcases h with h | ⟨-, h⟩
  · exact h
  · exact absurd h (not_lt.2 hba.le)

/-- One that is ahead is another one. -/
theorem Ahead.ne {n : ℕ} {g : Fin n → EReal} {a b : Fin n} (h : Ahead g a b) : a ≠ b := by
  rintro rfl
  rcases h with h | ⟨-, h⟩ <;> exact lt_irrefl _ h

/-- The question the sort asks of two positions. -/
def greater {n : ℕ} (g : Fin n → EReal) (a b : Fin n) : Bool := decide (g b < g a)

/-- Inserting puts in the one element. -/
theorem mem_insertBefore {n : ℕ} (f : Fin n → Fin n → Bool) (a : Fin n) (l : List (Fin n)) (x : Fin n) :
    x ∈ insertBefore f a l ↔ x = a ∨ x ∈ l := by
  induction l with
  | nil => simp [insertBefore]
  | cons b l ih =>
    unfold insertBefore
    split
    · simp only [List.mem_cons, ih]; tauto
    · simp only [List.mem_cons]

/-- Sorting keeps the elements. -/
theorem mem_stableSort {n : ℕ} (f : Fin n → Fin n → Bool) (l : List (Fin n)) (x : Fin n) : x ∈ stableSort f l ↔ x ∈ l := by
  induction l with
  | nil => rfl
  | cons a l ih => unfold stableSort; rw [mem_insertBefore, ih, List.mem_cons]

/-- Inserting an index below all others into an ordered list leaves it ordered. -/
theorem pairwise_insertBefore {n : ℕ} (g : Fin n → EReal) (a : Fin n) (l : List (Fin n)) (ha : ∀ b ∈ l, a < b)
    (h : l.Pairwise (Ahead g)) : (insertBefore (greater g) a l).Pairwise (Ahead g) := by
  induction l with
  | nil => simp [insertBefore]
  | cons b l ih =>
    have hb := List.pairwise_cons.1 h
    unfold insertBefore
    split
    · rename_i hlt
      have hlt : g a < g b := by simpa [greater] using hlt
      refine List.pairwise_cons.2 ⟨fun x hx => ?_, ih (fun x hx => ha x (List.mem_cons_of_mem _ hx)) hb.2⟩
      rcases (mem_insertBefore _ _ _ _).1 hx with rfl | hx
      · exact .inl hlt
      · exact hb.1 x hx
    · rename_i hlt
      have hle : g b ≤ g a := by simpa [greater] using hlt
      have hab : Ahead g a b := by
        rcases hle.lt_or_eq with h' | h'
        · exact .inl h'
        · exact .inr ⟨h'.symm, ha b List.mem_cons_self⟩
      refine List.pairwise_cons.2 ⟨fun x hx => ?_, h⟩
      rcases List.mem_cons.1 hx with rfl | hx
      · exact hab
      · exact hab.trans (hb.1 x hx)

/-- The stable sort of ascending indices is ordered. -/
theorem pairwise_stableSort {n : ℕ} (g : Fin n → EReal) (l : List (Fin n)) (hl : l.Pairwise (· < ·)) :
    (stableSort (greater g) l).Pairwise (Ahead g) := by
  induction l with
  | nil => exact List.Pairwise.nil
  | cons a l ih =>
    have h := List.pairwise_cons.1 hl
    exact pairwise_insertBefore g a _ (fun b hb => h.1 b ((mem_stableSort _ _ _).1 hb)) (ih h.2)

/-- The first position of the stable sort is the best of all, and the second the best of the others. -/
theorem sorted_best {n : ℕ} (g : Fin n → EReal) (h1 : 1 < n) :
    Best g (fun _ => True) (sortedFrom (greater g) ⟨0, by omega⟩)
      ∧ Best g (fun j => j ≠ sortedFrom (greater g) ⟨0, by omega⟩) (sortedFrom (greater g) ⟨1, h1⟩) := by
  have hp : (sortPositions n (greater g)).Pairwise (Ahead g) := pairwise_stableSort g _ (List.pairwise_lt_finRange n)
  have hm : ∀ j, j ∈ sortPositions n (greater g) := fun j => (mem_stableSort _ _ _).2 (List.mem_finRange j)
  have hlen := length_sortPositions n (greater g)
  obtain ⟨a, b, l, he⟩ : ∃ a b l, sortPositions n (greater g) = a :: b :: l := by
    match hs : sortPositions n (greater g) with
    | [] => rw [hs] at hlen; simp at hlen; omega
    | [a] => rw [hs] at hlen; simp at hlen; omega
    | a :: b :: l => exact ⟨a, b, l, rfl⟩
  have e0 : sortedFrom (greater g) ⟨0, by omega⟩ = a := by
    unfold sortedFrom; simp only [List.get_eq_getElem, Fin.cast_mk, he]; rfl
  have e1 : sortedFrom (greater g) ⟨1, h1⟩ = b := by
    unfold sortedFrom; simp only [List.get_eq_getElem, Fin.cast_mk, he]; rfl
  rw [e0, e1]
  rw [he] at hp hm
  obtain ⟨ha, hp'⟩ := List.pairwise_cons.1 hp
  obtain ⟨hb, -⟩ := List.pairwise_cons.1 hp'
  have first : ∀ j, j = a ∨ Ahead g a j := fun j => (List.mem_cons.1 (hm j)).imp_right (ha j)
  have second : ∀ j, j ≠ a → j = b ∨ Ahead g b j := fun j hj =>
    (List.mem_cons.1 ((List.mem_cons.1 (hm j)).resolve_left hj)).imp_right (hb j)
  refine ⟨⟨trivial, fun j _ => ?_, fun j _ hj => ?_⟩, ⟨(ha b List.mem_cons_self).ne.symm, fun j hj => ?_, fun j hj hlt => ?_⟩⟩
  · rcases first j with rfl | h
    · exact le_rfl
    · exact h.le
  · rcases first j with rfl | h
    · exact absurd hj (lt_irrefl _)
    · exact h.lt hj
  · rcases second j hj with rfl | h
    · exact le_rfl
    · exact h.le
  · rcases second j hj with rfl | h
    · exact absurd hlt (lt_irrefl _)
    · exact h.lt hlt

/-- The maximum of all, taken from the bottom value, is the best one's. -/
theorem Best.fold_max {n : ℕ} {g : Fin n → EReal} {i : Fin n} (h : Best g (fun _ => True) i) :
    (Finset.univ : Finset (Fin n)).fold max ⊥ g = g i := by
  refine le_antisymm ?_ ?_
  · exact (Finset.fold_max_le _).2 ⟨bot_le, fun j _ => h.le j trivial⟩
  · exact (Finset.le_fold_max _).2 (.inr ⟨i, Finset.mem_univ i, le_rfl⟩)

/-- A word no element undercuts survives the minimum. -/
theorem minsi_fold_of {ι : Type} [DecidableEq ι] (s : Finset ι) (f : ι → BitVec 32) (v z : BitVec 32)
    (hz : IntOp.minsi v z = v) (h : ∀ x ∈ s, IntOp.minsi v (f x) = v) : IntOp.minsi v (s.fold IntOp.minsi z f) = v := by
  induction s using Finset.induction_on with
  | empty => simpa using hz
  | insert a s ha ih =>
    rw [Finset.fold_insert ha, ← Std.Associative.assoc (op := (IntOp.minsi : BitVec 32 → BitVec 32 → BitVec 32)),
      h a (Finset.mem_insert_self a s)]
    exact ih fun x hx => h x (Finset.mem_insert_of_mem hx)

/-- The smaller of two expert numbers is the earlier one. -/
theorem minsi_small : ∀ i x : Fin 8, i ≤ x → IntOp.minsi (BitVec.ofNat 32 i.val) (BitVec.ofNat 32 x.val) = BitVec.ofNat 32 i.val := by
  decide
/-- An expert number is below eight. -/
theorem minsi_eight : ∀ i : Fin 8, IntOp.minsi (BitVec.ofNat 32 i.val) 8#32 = BitVec.ofNat 32 i.val := by decide
/-- An expert number is below the largest word. -/
theorem minsi_top : ∀ i : Fin 8, IntOp.minsi (BitVec.ofNat 32 i.val) 2147483647#32 = BitVec.ofNat 32 i.val := by decide

/-- The least index that attains the best score is the best index. -/
theorem Best.fold_minsi {g : Fin 8 → EReal} {i : Fin 8} (h : Best g (fun _ => True) i) :
    (Finset.univ : Finset (Fin 8)).fold IntOp.minsi 2147483647#32 (fun x => if g x = g i then BitVec.ofNat 32 x.val else 8#32)
      = BitVec.ofNat 32 i.val := by
  rw [← Finset.insert_erase (Finset.mem_univ i), Finset.fold_insert (Finset.notMem_erase i _), if_pos rfl]
  refine minsi_fold_of _ _ _ _ (minsi_top i) fun x _ => ?_
  split
  · rename_i hx
    refine minsi_small i x (not_lt.1 fun hlt => ?_)
    exact absurd (h.lt x trivial hlt) (by rw [hx]; exact lt_irrefl _)
  · exact minsi_eight i

/-- The best of the others is the best of all once the first is put at the bottom. -/
theorem Best.masked {n : ℕ} {g : Fin n → EReal} {i j : Fin n} (h : Best g (fun k => k ≠ i) j) (hb : g j ≠ ⊥) :
    Best (fun k => if k = i then ⊥ else g k) (fun _ => True) j := by
  refine ⟨trivial, fun k _ => ?_, fun k _ hk => ?_⟩
  · rw [if_neg h.mem]
    split
    · exact bot_le
    · rename_i hki; exact h.le k hki
  · rw [if_neg h.mem]
    split
    · exact bot_lt_iff_ne_bot.2 hb
    · rename_i hki; exact h.lt k hki hk

/-- The best index of all, by the stable sort. -/
def firstOf (g : Fin 8 → EReal) : Fin 8 := sortedFrom (greater g) ⟨0, by decide⟩
/-- The best index but the first, by the stable sort. -/
def secondOf (g : Fin 8 → EReal) : Fin 8 := sortedFrom (greater g) ⟨1, by decide⟩

/-- The first is the best of all. -/
theorem firstOf_best (g : Fin 8 → EReal) : Best g (fun _ => True) (firstOf g) := (sorted_best g (by decide)).1
/-- The second is the best of the others. -/
theorem secondOf_best (g : Fin 8 → EReal) : Best g (fun j => j ≠ firstOf g) (secondOf g) := (sorted_best g (by decide)).2

/-- The second score against the first, as an exponential. -/
def ratio (g : Fin 8 → EReal) : EReal := Ideal.exp (g (secondOf g) - g (firstOf g))
/-- The first expert's weight. -/
def weight1 (g : Fin 8 → EReal) : EReal := Ideal.div 1 (1 + ratio g)
/-- The second expert's weight. -/
def weight2 (g : Fin 8 → EReal) : EReal := Ideal.div (ratio g) (1 + ratio g)
/-- The weight of expert `e`: nothing unless it is one of the two. -/
def weightOf (g : Fin 8 → EReal) (e : Fin 8) : EReal :=
  (if firstOf g = e then weight1 g else 0) + (if secondOf g = e then weight2 g else 0)

/-- The weighted sum over all the experts is the two chosen ones' weighted sum. -/
theorem sum_weightOf (g y : Fin 8 → EReal) :
    ∑ e, weightOf g e * y e = y (firstOf g) * weight1 g + y (secondOf g) * weight2 g := by
  have hne : secondOf g ≠ firstOf g := (secondOf_best g).mem
  rw [Finset.sum_eq_add (firstOf g) (secondOf g) hne.symm (fun e _ he => ?_) (fun h => absurd (Finset.mem_univ _) h)
    (fun h => absurd (Finset.mem_univ _) h)]
  · unfold weightOf
    rw [if_pos rfl, if_neg hne, if_neg hne.symm, if_pos rfl, add_zero, zero_add, mul_comm, mul_comm (weight2 g)]
  · unfold weightOf
    rw [if_neg (Ne.symm he.1), if_neg (Ne.symm he.2), add_zero, zero_mul]

end Cert.Moe
-- ==== Proof.Route.lean ====
module

public import proofs.«01_k».proof.Proof.Plain
public import proofs.«01_k».proof.Proof.Pick
public import proofs.«01_k».proof.Proof.Step
public import Idealize.ShloMosaic.Lib.Pointwise
public import Idealize.ShloMosaic.Lib.WordCmp

/-! The kernel's routing at a token: the normalised row, its scores, the two experts and their weights. -/

@[expose] public section

set_option maxRecDepth 16384

noncomputable section

namespace Cert.KernelIdeal.Moe

open Idealize.ShloMosaic Cert.KernelIdeal Cert.KernelIdeal.Gen Cert.Moe

/-- The kernel's tokens are the scaled rows. -/
theorem k_scaled (x0 : Vec Ideal S32x1024 .bf16) (x1 : Vec Ideal S1x1024 .f32) (b : Fin 32) (k : Fin 1024) :
    k0_pay11 (k0_pay8 x0) (k0_pay9 x0) k0_pay10 x1 (ix2 b k)
      = scaled (fun k => x0 (ix2 b k)) (fun k => x1 (ix2 0 k)) k := by
  pointwise [k0_pay11, k0_pay8, k0_pay9, k0_pay10, scaled]

/-- The stored tokens are the scaled rows. -/
theorem k_tokens (x0 : Vec Ideal S32x1024 .bf16) (x1 : Vec Ideal S1x1024 .f32) (b : Fin 32) (k : Fin 1024) :
    tokens x0 x1 (ix2 b k) = scaled (fun k => x0 (ix2 b k)) (fun k => x1 (ix2 0 k)) k := by
  unfold tokens k0_pay12
  pointwise [k_scaled]

/-- The kernel's scores. -/
theorem k_score (x0 : Vec Ideal S32x1024 .bf16) (x1 : Vec Ideal S1x1024 .f32) (x2 : Vec Ideal S8x1024 .bf16)
    (x3 : Vec Ideal S1x8 .bf16) (b : Fin 32) (e : Fin 8) :
    k0_pay13 (k0_pay8 x0) (k0_pay9 x0) k0_pay10 x1 x2 x3 (ix2 b e)
      = score (scaled (fun k => x0 (ix2 b k)) (fun k => x1 (ix2 0 k))) (fun e k => x2 (ix2 e k)) (fun e => x3 (ix2 0 e)) e := by
  unfold k0_pay13
  have hT := k_scaled x0 x1 b
  revert hT
  generalize k0_pay11 (k0_pay8 x0) (k0_pay9 x0) k0_pay10 x1 = T
  intro hT
  pointwise [score, hT]

section Pick

variable (a : FVec Ideal S32x1024 .f32) (b c : FVec Ideal S32x1 .f32) (d : Vec Ideal S1x1024 .f32) (e : Vec Ideal S8x1024 .bf16)
  (f : Vec Ideal S1x8 .bf16) (r : Fin 32) (g : Fin 8 → EReal)

/-- The least value a maximum starts from. -/
theorem ofBits_bot : Ideal.ofBits .f32 0xFF800000#32 = ⊥ := by
  simp [Ideal.ofBits, Ideal.ieee]

/-- The greatest score. -/
theorem k_max1 (h : ∀ l, k0_pay13 (F := Ideal) a b c d e f (ix2 r l) = g l) :
    k0_pay14 (F := Ideal) a b c d e f (ix2 r 0) = g (firstOf g) := by
  unfold k0_pay14
  pointwise [h, ofBits_bot]
  exact (firstOf_best g).fold_max

/-- The first expert's number. -/
theorem k_idx1 (h : ∀ l, k0_pay13 (F := Ideal) a b c d e f (ix2 r l) = g l) :
    k0_pay15 (F := Ideal) a b c d e f (ix2 r 0) = BitVec.ofNat 32 (firstOf g).val := by
  unfold k0_pay15
  pointwise [h, k_max1 a b c d e f r g h]
  exact (firstOf_best g).fold_minsi

/-- Two expert numbers compare equal when they are one expert. -/
theorem cmpi_small : ∀ l i : Fin 8, IntOp.cmpi .eq (BitVec.ofNat 32 l.val) (BitVec.ofNat 32 i.val) = if l = i then 1#1 else 0#1 := by
  decide

/-- The scores with the first expert's put at the bottom. -/
theorem k_rest (h : ∀ l, k0_pay13 (F := Ideal) a b c d e f (ix2 r l) = g l) (l : Fin 8) :
    k0_pay16 (F := Ideal) a b c d e f (ix2 r l) = if l = firstOf g then ⊥ else g l := by
  unfold k0_pay16
  pointwise [h, k_idx1 a b c d e f r g h, cmpi_small, ofBits_bot]
  split <;> rfl

/-- The second score. -/
theorem k_max2 (h : ∀ l, k0_pay13 (F := Ideal) a b c d e f (ix2 r l) = g l) (hb : ∀ l, g l ≠ ⊥) :
    k0_pay17 (F := Ideal) a b c d e f (ix2 r 0) = g (secondOf g) := by
  have hB := (secondOf_best g).masked (hb _)
  unfold k0_pay17
  pointwise [k_rest a b c d e f r g h, ofBits_bot]
  refine hB.fold_max.trans ?_
  exact if_neg (secondOf_best g).mem

/-- The second expert's number. -/
theorem k_idx2 (h : ∀ l, k0_pay13 (F := Ideal) a b c d e f (ix2 r l) = g l) (hb : ∀ l, g l ≠ ⊥) :
    k0_pay18 (F := Ideal) a b c d e f (ix2 r 0) = BitVec.ofNat 32 (secondOf g).val := by
  have hB := ((secondOf_best g).masked (hb _)).fold_minsi
  rw [if_neg (secondOf_best g).mem] at hB
  unfold k0_pay18
  pointwise [k_rest a b c d e f r g h, k_max2 a b c d e f r g h hb]
  exact hB

end Pick

/-- A row's scores. -/
def scores (x0 : Vec Ideal S32x1024 .bf16) (x1 : Vec Ideal S1x1024 .f32) (x2 : Vec Ideal S8x1024 .bf16)
    (x3 : Vec Ideal S1x8 .bf16) (b : Fin 32) : Fin 8 → EReal :=
  score (scaled (fun k => x0 (ix2 b k)) (fun k => x1 (ix2 0 k))) (fun e k => x2 (ix2 e k)) (fun e => x3 (ix2 0 e))

section Table

variable (x0 : Vec Ideal S32x1024 .bf16) (x1 : Vec Ideal S1x1024 .f32) (x2 : Vec Ideal S8x1024 .bf16)
  (x3 : Vec Ideal S1x8 .bf16) (b : Fin 32)

/-- The table's first column is the first expert's number. -/
theorem route0 : colOf (routes x0 x1 x2 x3) 0 (ix2 b 0) = (((BitVec.ofNat 32 (firstOf (scores x0 x1 x2 x3 b)).val).toInt : ℝ) : EReal) := by
  show k0_pay20 (k0_pay15 (k0_pay8 x0) (k0_pay9 x0) k0_pay10 x1 x2 x3) (ix2 b 0) = _
  have h := k_idx1 _ _ _ _ _ _ b _ (k_score x0 x1 x2 x3 b)
  pointwise [k0_pay20, h]
  rfl

/-- The table's second column is the second expert's number. -/
theorem route1 (hb : ∀ l, scores x0 x1 x2 x3 b l ≠ ⊥) :
    colOf (routes x0 x1 x2 x3) 1 (ix2 b 0) = (((BitVec.ofNat 32 (secondOf (scores x0 x1 x2 x3 b)).val).toInt : ℝ) : EReal) := by
  show k0_pay21 (k0_pay18 (k0_pay8 x0) (k0_pay9 x0) k0_pay10 x1 x2 x3) (ix2 b 0) = _
  have h := k_idx2 _ _ _ _ _ _ b _ (k_score x0 x1 x2 x3 b) hb
  pointwise [k0_pay21, h]
  rfl

/-- The table's third column is the first weight. -/
theorem route2 (hb : ∀ l, scores x0 x1 x2 x3 b l ≠ ⊥) :
    colOf (routes x0 x1 x2 x3) 2 (ix2 b 0) = weight1 (scores x0 x1 x2 x3 b) := by
  show k0_pay22 (k0_pay14 (k0_pay8 x0) (k0_pay9 x0) k0_pay10 x1 x2 x3) (k0_pay17 (k0_pay8 x0) (k0_pay9 x0) k0_pay10 x1 x2 x3) (ix2 b 0) = _
  have h := k_max1 _ _ _ _ _ _ b _ (k_score x0 x1 x2 x3 b)
  have h' := k_max2 _ _ _ _ _ _ b _ (k_score x0 x1 x2 x3 b) hb
  pointwise [k0_pay22, k0_pay19, h, h']
  rfl

/-- The table's fourth column is the second weight. -/
theorem route3 (hb : ∀ l, scores x0 x1 x2 x3 b l ≠ ⊥) :
    colOf (routes x0 x1 x2 x3) 3 (ix2 b 0) = weight2 (scores x0 x1 x2 x3 b) := by
  show k0_pay23 (k0_pay14 (k0_pay8 x0) (k0_pay9 x0) k0_pay10 x1 x2 x3) (k0_pay17 (k0_pay8 x0) (k0_pay9 x0) k0_pay10 x1 x2 x3) (ix2 b 0) = _
  have h := k_max1 _ _ _ _ _ _ b _ (k_score x0 x1 x2 x3 b)
  have h' := k_max2 _ _ _ _ _ _ b _ (k_score x0 x1 x2 x3 b) hb
  pointwise [k0_pay23, k0_pay19, h, h']
  rfl

/-- An expert's number, read back, is its own only. -/
theorem number_eq_iff (i e : Fin 8) :
    ((((BitVec.ofNat 32 i.val).toInt : ℝ) : EReal) = (((BitVec.ofNat 32 e.val).toInt : ℝ) : EReal)) ↔ i = e := by
  rw [EReal.coe_eq_coe_iff, Int.cast_inj]
  revert i e; decide

end Table

end Cert.KernelIdeal.Moe
-- ==== Proof.Half.lean ====
module

public import proofs.«01_k».proof.Proof.Plain
public import proofs.«01_k».proof.Proof.Step
public import Idealize.ShloMosaic.Lib.Pointwise
public import Idealize.ShloMosaic.Lib.WordCmp

/-! One half of an expert in the kernel: the selector picks the even and the odd rows of the first product, and the gated
units follow. -/

@[expose] public section

set_option maxRecDepth 16384

noncomputable section

namespace Cert.KernelIdeal.Moe

open Idealize.ShloMosaic Cert.KernelIdeal Cert.KernelIdeal.Gen Cert.Moe

/-- The row column `c` of the selector picks, in the words the kernel computes it in. -/
def picked (c : BitVec 32) : BitVec 32 :=
  IntOp.addi (IntOp.muli (2#32) (IntOp.andi c 511#32))
    (Scalar.select
      (IntOp.andi
        (IntOp.cmpi CmpIPredicate.ne
          (IntOp.subi (BitVec.setWidth 32 (IntOp.cmpi CmpIPredicate.sgt c 0#32))
            (BitVec.setWidth 32 (IntOp.cmpi CmpIPredicate.slt c 0#32)))
          (Scalar.subi (Scalar.extui (Scalar.cmpi CmpIPredicate.sgt 512#32 0#32))
            (Scalar.extui (Scalar.cmpi CmpIPredicate.slt 512#32 0#32))))
        (IntOp.cmpi CmpIPredicate.ne (IntOp.remsi ArithUnit.vector c 512#32) 0#32))
      (IntOp.subi (IntOp.divsi ArithUnit.vector c 512#32) 1#32)
      (IntOp.divsi ArithUnit.vector c 512#32))

/-- It is row `2c` in the first half and `2(c - 512) + 1` in the second. -/
theorem picked_eq : ∀ c : Fin 1024, picked (BitVec.ofNat 32 c.val) = BitVec.ofNat 32 (2 * (c.val % 512) + c.val / 512) := by
  decide +kernel

/-- A comparison's bit as a number. -/
theorem bit_value (k n : ℕ) (hk : k < 2 ^ 32) (hn : n < 2 ^ 32) :
    (FloatOps.sitofp FTy.f32 (BitVec.setWidth 32 (IntOp.cmpi CmpIPredicate.eq (BitVec.ofNat 32 k) (BitVec.ofNat 32 n))) : Ideal .f32)
      = if k = n then 1 else 0 := by
  by_cases h : k = n
  · subst h
    rw [if_pos rfl]
    show ((((BitVec.setWidth 32 (IntOp.cmpi CmpIPredicate.eq (BitVec.ofNat 32 k) (BitVec.ofNat 32 k))).toInt : ℝ)) : EReal) = 1
    simp [IntOp.cmpi]
  · rw [if_neg h]
    have hne : BitVec.ofNat 32 k ≠ BitVec.ofNat 32 n := fun e => h (by
      have := congrArg BitVec.toNat e
      rwa [BitVec.toNat_ofNat, BitVec.toNat_ofNat, Nat.mod_eq_of_lt hk, Nat.mod_eq_of_lt hn] at this)
    show ((((BitVec.setWidth 32 (IntOp.cmpi CmpIPredicate.eq (BitVec.ofNat 32 k) (BitVec.ofNat 32 n))).toInt : ℝ)) : EReal) = 0
    have hb : IntOp.cmpi CmpIPredicate.eq (BitVec.ofNat 32 k) (BitVec.ofNat 32 n) = 0#1 := by
      show BitVec.ofBool (BitVec.ofNat 32 k == BitVec.ofNat 32 n) = 0#1
      rw [beq_eq_false_iff_ne.mpr hne]; rfl
    rw [hb]
    simp

/-- The selector's entries. -/
theorem k_selector (k c : Fin 1024) :
    k0_pay7 (F := Ideal) (ix2 k c) = if k.val = 2 * (c.val % 512) + c.val / 512 then 1 else 0 := by
  pointwise [k0_pay7]
  have h := picked_eq c
  unfold picked at h
  rw [h]
  exact bit_value _ _ (by omega) (by omega)

/-- A row against the selector is the picked entry. -/
theorem sum_selector (h : Fin 1024 → EReal) (c p : Fin 1024) (hp : p.val = 2 * (c.val % 512) + c.val / 512) :
    ∑ x, h x * k0_pay7 (F := Ideal) (ix2 x c) = h p := by
  rw [Finset.sum_eq_single p (fun x _ hx => ?_) (fun h => absurd (Finset.mem_univ _) h)]
  · rw [k_selector, if_pos hp, mul_one]
  · rw [k_selector, if_neg (fun e => hx (Fin.ext (e.trans hp.symm))), mul_zero]

/-- Row `2c` of a half. -/
def evenRow (c : Fin 512) : Fin 1024 := ⟨2 * c.val, by omega⟩
/-- Row `2c + 1` of a half. -/
def oddRow (c : Fin 512) : Fin 1024 := ⟨2 * c.val + 1, by omega⟩

/-- The half's gated units. -/
theorem k_half (t : Vec Ideal S32x1024 .bf16) (x4 : Vec Ideal S1x1024x1024 .bf16) (x5 : Vec Ideal S1x1x1024 .bf16)
    (b : Fin 32) (c : Fin 512) :
    mid t x4 x5 (k0_pay7 (F := Ideal)) (ix2 b c)
      = gated (unit (fun k => t (ix2 b k)) (fun k => x4 (ix3 0 (evenRow c) k)) (x5 (ix3 0 0 (evenRow c))))
          (unit (fun k => t (ix2 b k)) (fun k => x4 (ix3 0 (oddRow c) k)) (x5 (ix3 0 0 (oddRow c)))) := by
  unfold mid k0_pay24
  generalize hS : k0_pay7 (F := Ideal) = S
  pointwise
  subst hS
  rw [sum_selector (fun x => ∑ k, t (ix2 b k) * x4 (ix3 0 x k) + x5 (ix3 0 0 x)) _ (evenRow c) (by
      show 2 * c.val = 2 * (c.val % 512) + c.val / 512; omega),
    sum_selector (fun x => ∑ k, t (ix2 b k) * x4 (ix3 0 x k) + x5 (ix3 0 0 x)) _ (oddRow c) (by
      show 2 * c.val + 1 = 2 * ((512 + c.val) % 512) + (512 + c.val) / 512; omega)]
  rfl

end Cert.KernelIdeal.Moe
-- ==== Proof.Reads.lean ====
module

public import proofs.«01_k».proof.Proof.Step16
public import Idealize.ShloMosaic.Lib.Pointwise
public import Idealize.ShloMosaic.Lib.Pipeline.ValueKit.Geometry

/-! The blocks the kernel reads at a point, as entries of the argument arrays. -/

@[expose] public section

set_option maxRecDepth 16384

noncomputable section

namespace Cert.KernelIdeal.Moe

open Idealize.ShloMosaic Idealize.ShloMosaic.TcCoe Idealize.SL.Sem Cert.KernelIdeal Cert.KernelIdeal.Gen
open Idealize.ShloMosaic.Pipeline (Dat Cfg Window)

variable {F : FTy → Type} [FloatOps F]
variable (m : (ℓ : Loc nD τ sig) → Buf (Elt F) ℓ) (c : Dev nD)

/-- The token window is the whole array. -/
theorem at0 : ∀ t : Fin cfg0.N, win0_0.index t = ![0, 0] := (by decide +kernel : ∀ t : Fin grid0.N, win0_0.index t = ![0, 0])
/-- The scale window is the whole array. -/
theorem at1 : ∀ t : Fin cfg0.N, win0_1.index t = ![0, 0] := (by decide +kernel : ∀ t : Fin grid0.N, win0_1.index t = ![0, 0])
/-- The routing weight window is the whole array. -/
theorem at2 : ∀ t : Fin cfg0.N, win0_2.index t = ![0, 0] := (by decide +kernel : ∀ t : Fin grid0.N, win0_2.index t = ![0, 0])
/-- The routing bias window is the whole array. -/
theorem at3 : ∀ t : Fin cfg0.N, win0_3.index t = ![0, 0] := (by decide +kernel : ∀ t : Fin grid0.N, win0_3.index t = ![0, 0])
/-- The first weight window at point `2e + j` is half `j` of expert `e`. -/
theorem at4 : ∀ t : Fin cfg0.N, win0_4.index t = ![t.val / 2, t.val % 2, 0] :=
  (by decide +kernel : ∀ t : Fin grid0.N, win0_4.index t = ![t.val / 2, t.val % 2, 0])
/-- The first bias window at point `2e + j` is half `j` of expert `e`. -/
theorem at5 : ∀ t : Fin cfg0.N, win0_5.index t = ![t.val / 2, 0, t.val % 2] :=
  (by decide +kernel : ∀ t : Fin grid0.N, win0_5.index t = ![t.val / 2, 0, t.val % 2])
/-- The second weight window at point `2e + j` is half `j` of the columns of expert `e`. -/
theorem at6 : ∀ t : Fin cfg0.N, win0_6.index t = ![t.val / 2, 0, t.val % 2] :=
  (by decide +kernel : ∀ t : Fin grid0.N, win0_6.index t = ![t.val / 2, 0, t.val % 2])
/-- The second bias window is the expert. -/
theorem at7 : ∀ t : Fin cfg0.N, win0_7.index t = ![t.val / 2, 0, 0] :=
  (by decide +kernel : ∀ t : Fin grid0.N, win0_7.index t = ![t.val / 2, 0, 0])

/-- The expert point `t` works on. -/
def expert (t : Fin cfg0.N) : Fin 8 := ⟨t.val / 2, by have := lt16 t; omega⟩

/-- Row or column `k` of the half point `t` works on. -/
def inHalf (t : Fin cfg0.N) (k : Fin 1024) : Fin 2048 := ⟨t.val % 2 * 1024 + k.val, by omega⟩
/-- Column `k` of the half point `t` works on. -/
def inHalf' (t : Fin cfg0.N) (k : Fin 512) : Fin 1024 := ⟨t.val % 2 * 512 + k.val, by omega⟩

/-- The reshaped scale, as the argument reshaped. -/
theorem V_v0 : V m c main_call0_v0 = shapeCast S1x1024 (m ((c : Thread nD τ).loc main_arg1)) shapeCasts_S1024_S1x1024 := by
  rfl
/-- The reshaped routing bias, as the argument reshaped. -/
theorem V_v1 : V m c main_call0_v1 = shapeCast S1x8 (m ((c : Thread nD τ).loc main_arg3)) shapeCasts_S8_S1x8 := by
  rfl
/-- The reshaped first bias, as the argument reshaped. -/
theorem V_v2 : V m c main_call0_v2 = shapeCast S8x1x2048 (m ((c : Thread nD τ).loc main_arg5)) shapeCasts_S8x2048_S8x1x2048 := by
  rfl

/-- The reshaped second bias, as the argument reshaped. -/
theorem V_v3 : V m c main_call0_v3 = shapeCast S8x1x1024 (m ((c : Thread nD τ).loc main_arg7)) shapeCasts_S8x1024_S8x1x1024 := by
  rfl

/-- A token entry, as read. -/
theorem read0 (t : Fin cfg0.N) (b : Fin 32) (k : Fin 1024) :
    (blocksAt m c t).x0 (ix2 b k) = m ((c : Thread nD τ).loc main_arg0) (ix2 b k) := by
  show iblk m c 0 t (ix2 b k) = _
  blk_simp [iblk]
  rw [V_main_arg0]
  refine congrArg (m ((c : Thread nD τ).loc main_arg0)) ?_
  blk_ext [at0]

/-- A scale entry, as read. -/
theorem read1 (t : Fin cfg0.N) (k : Fin 1024) :
    (blocksAt m c t).x1 (ix2 0 k) = m ((c : Thread nD τ).loc main_arg1) (ix1 k) := by
  show iblk m c 1 t (ix2 0 k) = _
  blk_simp [iblk]
  have e : (win0_1.blk t).view.emb (ix2 0 k) = ix2 0 k := by
    blk_ext [at1]
  rw [e, V_v0]
  pointwise

/-- A routing weight, as read. -/
theorem read2 (t : Fin cfg0.N) (b : Fin 8) (k : Fin 1024) :
    (blocksAt m c t).x2 (ix2 b k) = m ((c : Thread nD τ).loc main_arg2) (ix2 b k) := by
  show iblk m c 2 t (ix2 b k) = _
  blk_simp [iblk]
  rw [V_main_arg2]
  refine congrArg (m ((c : Thread nD τ).loc main_arg2)) ?_
  blk_ext [at2]

/-- A routing bias, as read. -/
theorem read3 (t : Fin cfg0.N) (k : Fin 8) :
    (blocksAt m c t).x3 (ix2 0 k) = m ((c : Thread nD τ).loc main_arg3) (ix1 k) := by
  show iblk m c 3 t (ix2 0 k) = _
  blk_simp [iblk]
  have e : (win0_3.blk t).view.emb (ix2 0 k) = ix2 0 k := by
    blk_ext [at3]
  rw [e, V_v1]
  pointwise

/-- A first weight, as read. -/
theorem read4 (t : Fin cfg0.N) (b : Fin 1024) (k : Fin 1024) :
    (blocksAt m c t).x4 (ix3 0 b k) = m ((c : Thread nD τ).loc main_arg4) (ix3 (expert t) (inHalf t b) k) := by
  show iblk m c 4 t (ix3 0 b k) = _
  blk_simp [iblk]
  rw [V_main_arg4]
  refine congrArg (m ((c : Thread nD τ).loc main_arg4)) ?_
  blk_ext [at4, expert, inHalf]

/-- A first bias, as read. -/
theorem read5 (t : Fin cfg0.N) (k : Fin 1024) :
    (blocksAt m c t).x5 (ix3 0 0 k) = m ((c : Thread nD τ).loc main_arg5) (ix2 (expert t) (inHalf t k)) := by
  show iblk m c 5 t (ix3 0 0 k) = _
  blk_simp [iblk]
  have e : (win0_5.blk t).view.emb (ix3 0 0 k) = ix3 (expert t) 0 (inHalf t k) := by
    blk_ext [at5, expert, inHalf]
  rw [e, V_v2]
  pointwise

/-- A second weight, as read. -/
theorem read6 (t : Fin cfg0.N) (b : Fin 1024) (k : Fin 512) :
    (blocksAt m c t).x6 (ix3 0 b k) = m ((c : Thread nD τ).loc main_arg6) (ix3 (expert t) b (inHalf' t k)) := by
  show iblk m c 6 t (ix3 0 b k) = _
  blk_simp [iblk]
  rw [V_main_arg6]
  refine congrArg (m ((c : Thread nD τ).loc main_arg6)) ?_
  blk_ext [at6, expert, inHalf']

/-- A second bias, as read. -/
theorem read7 (t : Fin cfg0.N) (k : Fin 1024) :
    (blocksAt m c t).x7 (ix3 0 0 k) = m ((c : Thread nD τ).loc main_arg7) (ix2 (expert t) k) := by
  show iblk m c 7 t (ix3 0 0 k) = _
  blk_simp [iblk]
  have e : (win0_7.blk t).view.emb (ix3 0 0 k) = ix3 (expert t) 0 k := by
    blk_ext [at7, expert]
  rw [e, V_v3]
  pointwise

end Cert.KernelIdeal.Moe
-- ==== Proof.Finite.lean ====
module

public import proofs.«01_k».proof.Proof.Plain
public import Idealize.ShloMosaic.Lib.Pointwise

/-! The scores are numbers whatever the tokens hold, as long as the scale, the routing weights and biases are numbers. -/

@[expose] public section

noncomputable section

namespace Cert.Moe

open Idealize.ShloMosaic

/-- A number: neither infinity. -/
def IsNum (x : EReal) : Prop := ∃ r : ℝ, x = (r : EReal)

/-- Not an infinity is a number. -/
theorem isNum_of_ne {x : EReal} (hb : x ≠ ⊥) (ht : x ≠ ⊤) : IsNum x := by
  induction x with
  | bot => exact absurd rfl hb
  | top => exact absurd rfl ht
  | coe r => exact ⟨r, rfl⟩

/-- A number is not the bottom. -/
theorem IsNum.ne_bot {x : EReal} (h : IsNum x) : x ≠ ⊥ := by
  obtain ⟨r, rfl⟩ := h; exact EReal.coe_ne_bot r

/-- A number less itself is nothing. -/
theorem IsNum.sub_self {x : EReal} (h : IsNum x) : x - x = 0 := by
  obtain ⟨r, rfl⟩ := h; rw [← EReal.coe_sub, _root_.sub_self, EReal.coe_zero]

/-- Nothing is a number. -/
theorem isNum_zero : IsNum 0 := ⟨0, rfl⟩

/-- Products of numbers are numbers. -/
theorem IsNum.mul {x y : EReal} (h : IsNum x) (h' : IsNum y) : IsNum (x * y) := by
  obtain ⟨r, rfl⟩ := h; obtain ⟨q, rfl⟩ := h'; exact ⟨r * q, (EReal.coe_mul r q).symm⟩

/-- Sums of numbers are numbers. -/
theorem IsNum.add {x y : EReal} (h : IsNum x) (h' : IsNum y) : IsNum (x + y) := by
  obtain ⟨r, rfl⟩ := h; obtain ⟨q, rfl⟩ := h'; exact ⟨r + q, (EReal.coe_add r q).symm⟩

/-- Long sums of numbers are numbers. -/
theorem IsNum.sum {n : ℕ} {f : Fin n → EReal} (h : ∀ k, IsNum (f k)) : IsNum (∑ k, f k) :=
  Finset.sum_induction f IsNum (fun _ _ => IsNum.add) isNum_zero (fun k _ => h k)

/-- A square is not negative. -/
theorem sq_nonneg' (x : EReal) : 0 ≤ x * x := by
  induction x with
  | bot => simp
  | top => simp
  | coe r => rw [← EReal.coe_mul]; exact_mod_cast mul_self_nonneg r

/-- A square that is not the top is of a number. -/
theorem isNum_of_sq {x : EReal} (h : x * x ≠ ⊤) : IsNum x := by
  refine isNum_of_ne (fun e => h ?_) (fun e => h ?_) <;> subst e <;> simp

/-- The row length, as a number. -/
theorem len_eq : Ideal.ofBits .f32 0x44800000#32 = ((1024 : ℝ) : EReal) := by
  simp [Ideal.ofBits, Ideal.ieee]
  rw [← EReal.coe_mul]
  norm_num

/-- The small constant is a positive number. -/
theorem eps_pos : ∃ r : ℝ, 0 < r ∧ Ideal.ofBits .f32 0x3727C5AC#32 = (r : EReal) := by
  refine ⟨_, ?_, by simp [Ideal.ofBits, Ideal.ieee]; rfl⟩
  norm_num

/-- A row's entries are numbers after scaling. -/
theorem scaled_isNum (x g : Fin 1024 → EReal) (hg : ∀ k, IsNum (g k)) (k : Fin 1024) : IsNum (scaled x g k) := by
  unfold scaled
  refine IsNum.mul ?_ (hg k)
  obtain ⟨p, hp, he⟩ := eps_pos
  rw [he, len_eq, Ideal.div_coe (by norm_num)]
  have hle : ∀ q, x q * x q ≤ ∑ q, x q * x q := fun q =>
    Finset.single_le_sum (f := fun q => x q * x q) (fun i _ => sq_nonneg' (x i)) (Finset.mem_univ q)
  have h0 : 0 ≤ ∑ q, x q * x q := Finset.sum_nonneg (fun i _ => sq_nonneg' (x i))
  by_cases ht : ∑ q, x q * x q = ⊤
  · rw [ht, EReal.top_mul_coe_of_pos (by norm_num), EReal.top_add_coe, Ideal.rsqrt_top, mul_zero]
    exact isNum_zero
  · have hx : ∀ q, IsNum (x q) := fun q => isNum_of_sq (fun e => ht (top_le_iff.mp (e ▸ hle q)))
    obtain ⟨s, hs⟩ := IsNum.sum (f := fun q => x q * x q) (fun q => (hx q).mul (hx q))
    refine (hx k).mul ?_
    rw [hs] at h0 ⊢
    have hs0 : 0 ≤ s := by exact_mod_cast h0
    rw [← EReal.coe_mul, ← EReal.coe_add, Ideal.rsqrt_coe]
    have hpos : 0 < s * (1 / 1024) + p := by positivity
    rw [if_neg (not_lt.mpr hpos.le), if_neg hpos.ne']
    exact ⟨_, rfl⟩

/-- The scores are numbers. -/
theorem score_isNum (x g : Fin 1024 → EReal) (w : Fin 8 → Fin 1024 → EReal) (b : Fin 8 → EReal)
    (hg : ∀ k, IsNum (g k)) (hw : ∀ e k, IsNum (w e k)) (hb : ∀ e, IsNum (b e)) (e : Fin 8) :
    IsNum (score (scaled x g) w b e) :=
  (IsNum.sum (fun k => (scaled_isNum x g hg k).mul (hw e k))).add (hb e)

end Cert.Moe
-- ==== Proof.KerValue.lean ====
module

public import proofs.«01_k».proof.Proof.Route
public import proofs.«01_k».proof.Proof.Half
public import proofs.«01_k».proof.Proof.Reads
public import proofs.«01_k».proof.Proof.Finite
public import proofs.«01_k».proof.Proof.Launched

/-! The kernel's answer at a token and a column: the token's own entry and the experts' weighted answers. -/

@[expose] public section

set_option maxRecDepth 16384

noncomputable section

namespace Cert.KernelIdeal.Moe

open Idealize.ShloMosaic Idealize.ShloMosaic.TcCoe Cert.KernelIdeal Cert.KernelIdeal.Gen Cert.Moe

/-- A half's part of the second product. -/
theorem k_out (h : FVec Ideal S32x512 .f32) (x6 : Vec Ideal S1x1024x512 .bf16) (b : Fin 32) (d : Fin 1024) :
    k0_pay2 h x6 (ix2 b d) = ∑ x, h (ix2 b x) * x6 (ix3 0 d x) := by
  pointwise [k0_pay2, k0_pay1]

/-- An expert's weighted answer from a routing table. -/
def shareOf (e : BitVec 32) (r : Vec Ideal S32x4 .f32) (b : Fin 32) : EReal :=
  (if colOf r 0 (ix2 b 0) = (((e.toInt : ℝ)) : EReal) then colOf r 2 (ix2 b 0) else 0)
    + (if colOf r 1 (ix2 b 0) = (((e.toInt : ℝ)) : EReal) then colOf r 3 (ix2 b 0) else 0)

/-- The first expert's combination. -/
theorem k_begun (e : BitVec 32) (h : FVec Ideal S32x512 .f32) (x6 : Vec Ideal S1x1024x512 .bf16) (y : Vec Ideal S32x1024 .f32)
    (x7 : Vec Ideal S1x1x1024 .bf16) (r : Vec Ideal S32x4 .f32) (b : Fin 32) (d : Fin 1024) :
    begun e h x6 y x7 r (ix2 b d)
      = shareOf e r b * (y (ix2 b d) + ∑ x, h (ix2 b x) * x6 (ix3 0 d x) + x7 (ix3 0 0 d)) := by
  unfold begun shareOf
  generalize colOf r 0 = r0
  generalize colOf r 1 = r2
  generalize colOf r 2 = r1
  generalize colOf r 3 = r3
  pointwise [k0_pay4, k0_pay3, k0_pay1]

/-- Another expert's combination. -/
theorem k_added (e : BitVec 32) (h : FVec Ideal S32x512 .f32) (x6 : Vec Ideal S1x1024x512 .bf16) (y : Vec Ideal S32x1024 .f32)
    (x7 : Vec Ideal S1x1x1024 .bf16) (r : Vec Ideal S32x4 .f32) (a : Vec Ideal S32x1024 .f32) (b : Fin 32) (d : Fin 1024) :
    added e h x6 y x7 r a (ix2 b d)
      = a (ix2 b d) + shareOf e r b * (y (ix2 b d) + ∑ x, h (ix2 b x) * x6 (ix3 0 d x) + x7 (ix3 0 0 d)) := by
  unfold added shareOf
  generalize colOf r 0 = r0
  generalize colOf r 1 = r2
  generalize colOf r 2 = r1
  generalize colOf r 3 = r3
  pointwise [k0_pay5, k0_pay3, k0_pay1]

variable (m : (ℓ : Loc nD τ sig) → Buf (Elt Ideal) ℓ) (c : Dev nD)

/-- A token's own entry, over the arguments. -/
def entryOf (b : Fin 32) (d : Fin 1024) : EReal := m ((c : Thread nD τ).loc main_arg0) (ix2 b d)
/-- A token's scaled row, over the arguments. -/
def tokRow (b : Fin 32) : Fin 1024 → EReal :=
  scaled (fun k => m ((c : Thread nD τ).loc main_arg0) (ix2 b k)) (fun k => m ((c : Thread nD τ).loc main_arg1) (ix1 k))
/-- A token's scores, over the arguments. -/
def rowScores (b : Fin 32) : Fin 8 → EReal :=
  score (tokRow m c b) (fun e k => m ((c : Thread nD τ).loc main_arg2) (ix2 e k)) (fun e => m ((c : Thread nD τ).loc main_arg3) (ix1 e))
/-- An expert's gated units at a token, over the arguments. -/
def unitsOf (b : Fin 32) (e : Fin 8) : Fin 1024 → EReal :=
  hiddenAt (tokRow m c b) (fun r q => m ((c : Thread nD τ).loc main_arg4) (ix3 e r q)) (fun r => m ((c : Thread nD τ).loc main_arg5) (ix2 e r))
/-- An expert's answer at a token, over the arguments. -/
def answerOf (b : Fin 32) (e : Fin 8) (d : Fin 1024) : EReal :=
  answer (unitsOf m c b e) (fun r q => m ((c : Thread nD τ).loc main_arg6) (ix3 e r q)) (fun r => m ((c : Thread nD τ).loc main_arg7) (ix2 e r)) d

/-- The stored tokens, over the arguments. -/
theorem tok_eq (b : Fin 32) (k : Fin 1024) : tok m c (ix2 b k) = tokRow m c b k := by
  unfold tok
  rw [k_tokens]
  unfold tokRow
  simp only [read0, read1]

/-- The block's scores are the arguments'. -/
theorem scores_eq (b : Fin 32) :
    scores (blocksAt m c (pt 0)).x0 (blocksAt m c (pt 0)).x1 (blocksAt m c (pt 0)).x2 (blocksAt m c (pt 0)).x3 b = rowScores m c b := by
  unfold scores rowScores tokRow
  simp only [read0, read1, read2, read3]

/-- A routing table's share is the expert's weight. -/
theorem share_eq (b : Fin 32) (hn : ∀ e, rowScores m c b e ≠ ⊥) (e : Fin 8) :
    shareOf (BitVec.ofNat 32 e.val) (route m c) b = weightOf (rowScores m c b) e := by
  have hs := scores_eq m c b
  unfold shareOf route
  rw [route0, route1 _ _ _ _ _ (by rw [hs]; exact hn), route2 _ _ _ _ _ (by rw [hs]; exact hn), route3 _ _ _ _ _ (by rw [hs]; exact hn), hs]
  unfold weightOf
  simp only [number_eq_iff]

/-- The gated units of a point's half, over the arguments. -/
theorem hidden_eq (n : ℕ) (b : Fin 32) (k : Fin 512) :
    hidden m c n (ix2 b k) = unitsOf m c b (expert (pt n)) (inHalf' (pt n) k) := by
  have h0 : inHalf (pt n) (evenRow k) = even (inHalf' (pt n) k) := Fin.ext (by
    show (pt n).val % 2 * 1024 + 2 * k.val = 2 * ((pt n).val % 2 * 512 + k.val); omega)
  have h1 : inHalf (pt n) (oddRow k) = odd (inHalf' (pt n) k) := Fin.ext (by
    show (pt n).val % 2 * 1024 + (2 * k.val + 1) = 2 * ((pt n).val % 2 * 512 + k.val) + 1; omega)
  unfold hidden
  refine (k_half _ _ _ b k).trans ?_
  simp only [tok_eq, read4, read5, h0, h1]
  rfl

/-- A half's part of the second product, over the arguments. -/
theorem half_eq (n : ℕ) (b : Fin 32) (d : Fin 1024) :
    ∑ x, hidden m c n (ix2 b x) * (blocksAt m c (pt n)).x6 (ix3 0 d x)
      = ∑ x, unitsOf m c b (expert (pt n)) (inHalf' (pt n) x)
          * m ((c : Thread nD τ).loc main_arg6) (ix3 (expert (pt n)) d (inHalf' (pt n) x)) := by
  simp only [hidden_eq, read6]

/-- The two halves and the bias are the expert's answer. -/
theorem whole_eq (e : Fin 8) (b : Fin 32) (d : Fin 1024) :
    part m c (2 * e.val) (ix2 b d) + ∑ x, hidden m c (2 * e.val + 1) (ix2 b x) * (blocksAt m c (pt (2 * e.val + 1))).x6 (ix3 0 d x)
        + (blocksAt m c (pt (2 * e.val + 1))).x7 (ix3 0 0 d)
      = answerOf m c b e d := by
  have he := e.isLt
  have e0 : expert (pt (2 * e.val)) = e := Fin.ext (by show 2 * e.val % 16 / 2 = e.val; omega)
  have e1 : expert (pt (2 * e.val + 1)) = e := Fin.ext (by show (2 * e.val + 1) % 16 / 2 = e.val; omega)
  have i0 : ∀ k, inHalf' (pt (2 * e.val)) k = (Fin.castAdd 512 k : Fin (512 + 512)) := fun k => Fin.ext (by
    show 2 * e.val % 16 % 2 * 512 + k.val = k.val; omega)
  have i1 : ∀ k, inHalf' (pt (2 * e.val + 1)) k = (Fin.natAdd 512 k : Fin (512 + 512)) := fun k => Fin.ext (by
    show (2 * e.val + 1) % 16 % 2 * 512 + k.val = 512 + k.val; omega)
  unfold part
  rw [k_out, half_eq, half_eq, read7, e0, e1]
  simp only [i0, i1]
  refine congrArg (· + _) ?_
  exact (Fin.sum_univ_add (a := 512) (b := 512)
    (fun x : Fin (512 + 512) => unitsOf m c b e x * m ((c : Thread nD τ).loc main_arg6) (ix3 e d x))).symm

/-- The running sum once expert `n` is combined. -/
theorem total_eq (b : Fin 32) (d : Fin 1024) (hn : ∀ e, rowScores m c b e ≠ ⊥) (n : ℕ) (h : n < 8) :
    total m c n (ix2 b d)
      = ∑ e : Fin (n + 1), weightOf (rowScores m c b) ⟨e.val, by omega⟩ * answerOf m c b ⟨e.val, by omega⟩ d := by
  induction n with
  | zero =>
    show begun (BitVec.ofNat 32 0) _ _ _ _ _ _ = _
    rw [k_begun]
    have hs := share_eq m c b hn 0
    have hw := whole_eq m c 0 b d
    rw [Fin.sum_univ_one]
    exact congrArg₂ (· * ·) hs hw
  | succ n ih =>
    show added (BitVec.ofNat 32 (n + 1)) _ _ _ _ _ _ _ = _
    rw [k_added, ih (by omega), Fin.sum_univ_castSucc (n := n + 1)]
    have hs := share_eq m c b hn ⟨n + 1, h⟩
    have hw := whole_eq m c ⟨n + 1, h⟩ b d
    exact congrArg (_ + ·) (congrArg₂ (· * ·) hs hw)

/-- The kernel's answer, when the scores are numbers. -/
theorem k_value (b : Fin 32) (d : Fin 1024) (hn : ∀ e, rowScores m c b e ≠ ⊥) :
    outBlock m c (ix2 b d)
      = entryOf m c b d + ∑ e, weightOf (rowScores m c b) e * answerOf m c b e d := by
  unfold outBlock
  have ht := total_eq m c b d hn 7 (by decide)
  have hx : (blocksAt m c (pt 15)).x0 (ix2 b d) = entryOf m c b d := read0 m c (pt 15) b d
  revert ht hx
  generalize total m c 7 = T
  generalize (blocksAt m c (pt 15)).x0 = X
  intro ht hx
  pointwise [k0_pay6, ht, hx]

end Cert.KernelIdeal.Moe
-- ==== Proof.Gather.lean ====
module

public import Idealize.ShloMosaic.Lib.Pointwise
public import Idealize.ShloMosaic.Lib.WordCmp

/-! Reading whole rows of a table at a pair of indices: where the index array holds a row's number, the result is that
row. -/

@[expose] public section

noncomputable section

namespace Cert.Moe

open Idealize.ShloMosaic

/-- A table of rows of rank two, read at a `[P, Q, 1]` array of row numbers. -/
abbrev rows2 (P Q A B : ℕ) (wf : GatherDims.WF ⟨3, ![8, A, B]⟩ ⟨3, ![P, Q, 1]⟩ ⟨4, ![P, Q, A, B]⟩ [2, 3] [0] [] [0] [] 2 ![1, A, B]) :
    GatherDims ⟨3, ![8, A, B]⟩ ⟨3, ![P, Q, 1]⟩ ⟨4, ![P, Q, A, B]⟩ where
  offsetDims := [2, 3]
  collapsedSliceDims := [0]
  operandBatchingDims := []
  startIndicesBatchingDims := []
  startIndexMap := [0]
  indexVectorDim := 2
  sliceSizes := ![1, A, B]
  wf := wf

/-- A table of rows of rank one, read at a `[P, Q, 1]` array of row numbers. -/
abbrev rows1 (P Q A : ℕ) (wf : GatherDims.WF ⟨2, ![8, A]⟩ ⟨3, ![P, Q, 1]⟩ ⟨3, ![P, Q, A]⟩ [2] [0] [] [0] [] 2 ![1, A]) :
    GatherDims ⟨2, ![8, A]⟩ ⟨3, ![P, Q, 1]⟩ ⟨3, ![P, Q, A]⟩ where
  offsetDims := [2]
  collapsedSliceDims := [0]
  operandBatchingDims := []
  startIndicesBatchingDims := []
  startIndexMap := [0]
  indexVectorDim := 2
  sliceSizes := ![1, A]
  wf := wf

/-- A row number, read as a clamped number, is itself. -/
theorem toInt_row : ∀ e : Fin 8, min (BitVec.ofNat 32 e.val).toInt.toNat 7 = e.val := by decide

/-- The rank-two row that is read is the one whose number the index array holds. -/
theorem rows2_apply {α : Type} {P Q A B : ℕ} (wf) (x : (⟨3, ![8, A, B]⟩ : Shape).Idx → α) (idx : IVec ⟨3, ![P, Q, 1]⟩ 32)
    (p : Fin P) (q : Fin Q) (a : Fin A) (b : Fin B) (e : Fin 8) (he : idx (ix3 p q 0) = BitVec.ofNat 32 e.val) :
    Host.gather (rows2 P Q A B wf) x idx (ix4 p q a b) = x (ix3 e a b) := by
  unfold Host.gather
  refine congrArg x (funext fun c => Fin.ext ?_)
  show (rows2 P Q A B wf).start (ix4 p q a b) idx c + (rows2 P Q A B wf).batchCoord (ix4 p q a b) c
      + (rows2 P Q A B wf).offCoord (ix4 p q a b) c = _
  rw [GatherDims.batchCoord_eq_zero _ _ _ List.not_mem_nil]
  have hc : c = 0 ∨ c = 1 ∨ c = 2 := by
    match c with
    | ⟨0, _⟩ => exact Or.inl rfl
    | ⟨1, _⟩ => exact Or.inr (Or.inl rfl)
    | ⟨2, _⟩ => exact Or.inr (Or.inr rfl)
  rcases hc with rfl | rfl | rfl
  · rw [GatherDims.offCoord_eq_zero _ _ _ (fun h => ((GatherDims.mem_sKept _ _).mp h).1 (List.mem_singleton.mpr rfl))]
    unfold GatherDims.start
    rw [dif_pos (List.mem_singleton.mpr rfl)]
    have hsi : (rows2 P Q A B wf).siIdx (ix4 p q a b) ⟨List.idxOf (0 : Fin 3) (rows2 P Q A B wf).startIndexMap,
        List.idxOf_lt_length_iff.2 (List.mem_singleton.mpr rfl)⟩ = ix3 p q 0 := by
      funext d; refine Fin.ext ?_
      match d with
      | ⟨0, _⟩ => rfl
      | ⟨1, _⟩ => rfl
      | ⟨2, _⟩ => rfl
    erw [hsi, he]
    exact toInt_row e
  · unfold GatherDims.start
    rw [dif_neg (by simp)]
    simp only [Nat.add_zero, Nat.zero_add]
    rfl
  · unfold GatherDims.start
    rw [dif_neg (by simp)]
    simp only [Nat.add_zero, Nat.zero_add]
    rfl

/-- The rank-one row that is read is the one whose number the index array holds. -/
theorem rows1_apply {α : Type} {P Q A : ℕ} (wf) (x : (⟨2, ![8, A]⟩ : Shape).Idx → α) (idx : IVec ⟨3, ![P, Q, 1]⟩ 32)
    (p : Fin P) (q : Fin Q) (a : Fin A) (e : Fin 8) (he : idx (ix3 p q 0) = BitVec.ofNat 32 e.val) :
    Host.gather (rows1 P Q A wf) x idx (ix3 p q a) = x (ix2 e a) := by
  unfold Host.gather
  refine congrArg x (funext fun c => Fin.ext ?_)
  show (rows1 P Q A wf).start (ix3 p q a) idx c + (rows1 P Q A wf).batchCoord (ix3 p q a) c
      + (rows1 P Q A wf).offCoord (ix3 p q a) c = _
  rw [GatherDims.batchCoord_eq_zero _ _ _ List.not_mem_nil]
  have hc : c = 0 ∨ c = 1 := by
    match c with
    | ⟨0, _⟩ => exact Or.inl rfl
    | ⟨1, _⟩ => exact Or.inr rfl
  rcases hc with rfl | rfl
  · rw [GatherDims.offCoord_eq_zero _ _ _ (fun h => ((GatherDims.mem_sKept _ _).mp h).1 (List.mem_singleton.mpr rfl))]
    unfold GatherDims.start
    rw [dif_pos (List.mem_singleton.mpr rfl)]
    have hsi : (rows1 P Q A wf).siIdx (ix3 p q a) ⟨List.idxOf (0 : Fin 2) (rows1 P Q A wf).startIndexMap,
        List.idxOf_lt_length_iff.2 (List.mem_singleton.mpr rfl)⟩ = ix3 p q 0 := by
      funext d; refine Fin.ext ?_
      match d with
      | ⟨0, _⟩ => rfl
      | ⟨1, _⟩ => rfl
      | ⟨2, _⟩ => rfl
    erw [hsi, he]
    exact toInt_row e
  · unfold GatherDims.start
    rw [dif_neg (by simp)]
    simp only [Nat.add_zero, Nat.zero_add]
    rfl

end Cert.Moe
-- ==== Proof.Chosen.lean ====
module

public import proofs.«01_k».proof.Proof.Plain
public import proofs.«01_k».proof.Proof.Pick
public import proofs.«01_k».proof.Proof.Gather
public import proofs.«01_k».proof.Proof.Finite
public import proofs.«01_k».proof.Proof.Gen.ReferenceIdeal.Read
public import Idealize.ShloMosaic.Lib.Pointwise

/-! The reference's routing at a token: its scores, the two experts, their weights, and the rows it gathers for them. -/

@[expose] public section
set_option maxRecDepth 16384
noncomputable section

namespace Cert.ReferenceIdeal.Moe

open Idealize.ShloMosaic Cert.ReferenceIdeal Cert.ReferenceIdeal.Gen Cert.ReferenceIdeal.Read Cert.Moe

/-- The `k`-th chosen expert. -/
def chosen (g : Fin 8 → EReal) (k : Fin 2) : Fin 8 := sortedFrom (greater g) (k.castLE (by decide))

/-- A row with one coordinate put in. -/
theorem along_row (b : Fin 32) (q e : Fin 8) :
    Shape.Idx.along (s := S32x8) (ix2 b q) (1 : Fin 2) e = ix2 b e := by
  funext a
  fin_cases a
  · rfl
  · rfl

/-- The order the sort of a row asks for is the row's own. -/
theorem order_row (x : FVec Ideal S32x8 .bf16) (y : IVec S32x8 32) (b : Fin 32) (q : Fin 8) (g : Fin 8 → EReal)
    (hg : ∀ e, x (ix2 b e) = g e) :
    (Host.sort2 S32x8 1 (fun l r => FloatOps.cmpfTotal (F := Ideal) (φ := .bf16) .gt l.1 r.1) x y).1 (ix2 b q) = g (sortedFrom (greater g) q)
      ∧ (Host.sort2 S32x8 1 (fun l r => FloatOps.cmpfTotal (F := Ideal) (φ := .bf16) .gt l.1 r.1) x y).2 (ix2 b q)
          = y (ix2 b (sortedFrom (greater g) q)) := by
  have hπ : (fun k k' : Fin 8 => FloatOps.cmpfTotal (F := Ideal) (φ := .bf16) .gt
        (x (Shape.Idx.along (s := S32x8) (ix2 b q) (1 : Fin 2) k)) (x (Shape.Idx.along (s := S32x8) (ix2 b q) (1 : Fin 2) k')) == 1#1)
      = greater g := by
    funext k k'
    rw [along_row, along_row, hg, hg]
    unfold greater
    show (BitVec.ofBool (decide (g k' < g k)) == 1#1) = _
    cases decide (g k' < g k) <;> rfl
  unfold Host.sort2
  rw [dif_pos (by decide : 1 < S32x8.rank)]
  constructor
  · exact (congrArg (fun f : Fin 8 → Fin 8 → Bool => x (Shape.Idx.along (s := S32x8) (ix2 b q) (1 : Fin 2) (sortedFrom f q))) hπ).trans
      ((congrArg x (along_row b q _)).trans (hg _))
  · exact (congrArg (fun f : Fin 8 → Fin 8 → Bool => y (Shape.Idx.along (s := S32x8) (ix2 b q) (1 : Fin 2) (sortedFrom f q))) hπ).trans
      (congrArg y (along_row b q _))

variable (x0 : FVec Ideal S32x1024 .bf16) (x1 : FVec Ideal S1024 .f32) (x2 : FVec Ideal S8x1024 .bf16) (x3 : FVec Ideal S8 .bf16)

/-- The reference's tokens are the scaled rows. -/
theorem r_scaled (b : Fin 32) (k : Fin 1024) :
    val_main_v14 (F := Ideal) x0 x1 (ix2 b k) = scaled (fun k => x0 (ix2 b k)) (fun k => x1 (ix1 k)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, scaled]

/-- A row's scores. -/
def scores (b : Fin 32) : Fin 8 → EReal :=
  score (scaled (fun k => x0 (ix2 b k)) (fun k => x1 (ix1 k))) (fun e k => x2 (ix2 e k)) (fun e => x3 (ix1 e))

/-- The reference's scores. -/
theorem r_score (b : Fin 32) (e : Fin 8) :
    val_main_v20 (F := Ideal) x0 x1 x2 x3 (ix2 b e) = scores x0 x1 x2 x3 b e := by
  pointwise [val_main_v20, val_main_v19, val_main_v18, val_main_v17, val_main_v16, val_main_v15, r_scaled, scores, score]

/-- The sort keeps the scores and carries the positions. -/
abbrev sortRow (x : FVec Ideal S32x8 .bf16) : FVec Ideal S32x8 .bf16 × IVec S32x8 32 :=
  Host.sort2 S32x8 1 (fun l r => FloatOps.cmpfTotal (F := Ideal) (φ := .bf16) .gt l.1 r.1) x
    (fun i => if hd : 1 < S32x8.rank then iotaInDim S32x8 32 ⟨1, hd⟩ i else 0#32)

/-- The chosen scores. -/
theorem r_values (b : Fin 32) (k : Fin 2) :
    val_main_values (F := Ideal) x0 x1 x2 x3 (ix2 b k)
      = scores x0 x1 x2 x3 b (chosen (scores x0 x1 x2 x3 b) k) := by
  unfold val_main_values
  have h := (order_row (val_main_v20 (F := Ideal) x0 x1 x2 x3) (fun i => if hd : 1 < S32x8.rank then iotaInDim S32x8 32 ⟨1, hd⟩ i else 0#32)
    b (k.castLE (by decide)) _ (r_score x0 x1 x2 x3 b)).1
  refine Eq.trans ?_ h
  show extractStridedSlice S32x2 (fun _ => 0) (sortRow (val_main_v20 (F := Ideal) x0 x1 x2 x3)).1 sliceFits_S32x8_S32x2 (ix2 b k)
    = (sortRow (val_main_v20 (F := Ideal) x0 x1 x2 x3)).1 (ix2 b (k.castLE (by decide)))
  generalize (sortRow (val_main_v20 (F := Ideal) x0 x1 x2 x3)).1 = S
  refine congrArg S ?_
  funext a
  fin_cases a
  · exact Fin.ext (Nat.zero_add _)
  · exact Fin.ext (Nat.zero_add _)

/-- The chosen experts' numbers. -/
theorem r_indices (b : Fin 32) (k : Fin 2) :
    val_main_indices (F := Ideal) x0 x1 x2 x3 (ix2 b k)
      = BitVec.ofNat 32 (chosen (scores x0 x1 x2 x3 b) k).val := by
  unfold val_main_indices
  have h := (order_row (val_main_v20 (F := Ideal) x0 x1 x2 x3) (fun i => if hd : 1 < S32x8.rank then iotaInDim S32x8 32 ⟨1, hd⟩ i else 0#32)
    b (k.castLE (by decide)) _ (r_score x0 x1 x2 x3 b)).2
  rw [dif_pos (by decide : 1 < S32x8.rank)] at h
  refine Eq.trans ?_ h
  show extractStridedSlice S32x2 (fun _ => 0) (sortRow (val_main_v20 (F := Ideal) x0 x1 x2 x3)).2 sliceFits_S32x8_S32x2 (ix2 b k)
    = (sortRow (val_main_v20 (F := Ideal) x0 x1 x2 x3)).2 (ix2 b (k.castLE (by decide)))
  generalize (sortRow (val_main_v20 (F := Ideal) x0 x1 x2 x3)).2 = S
  refine congrArg S ?_
  funext a
  fin_cases a
  · exact Fin.ext (Nat.zero_add _)
  · exact Fin.ext (Nat.zero_add _)

/-- The least value a maximum starts from. -/
theorem bot16 : Ideal.ofBits .bf16 0xFF80#16 = ⊥ := by
  simp [Ideal.ofBits, Ideal.ieee]

/-- The chosen experts' weights, when the scores are numbers. -/
theorem r_weight (b : Fin 32) (hn : ∀ e, IsNum (scores x0 x1 x2 x3 b e)) (k : Fin 2) :
    val_main_v33 (F := Ideal) x0 x1 x2 x3 (ix2 b k)
      = (![weight1 (scores x0 x1 x2 x3 b), weight2 (scores x0 x1 x2 x3 b)] : Fin 2 → EReal) k := by
  have hV := r_values x0 x1 x2 x3 b
  revert hV hn
  generalize scores x0 x1 x2 x3 b = g
  generalize hV : val_main_values (F := Ideal) x0 x1 x2 x3 = V
  intro hn hv
  pointwise [val_main_v33, val_main_v32, val_main_v31, val_main_v30, val_main_v29, val_main_v28, val_main_v27, val_main_v26, val_main_v25, val_main_v24, val_main_v23, val_main_v22, val_main_v21,  val_main_cst_2, val_main_cst_3, val_main_cst_4, hV, hv, bot16]
  have h0 : chosen g 0 = firstOf g := rfl
  have h1 : chosen g 1 = secondOf g := rfl
  have hmax : Finset.fold max (⊥ : EReal) (fun x => g (chosen g x)) Finset.univ = g (firstOf g) := by
    have hle : g (secondOf g) ≤ g (firstOf g) := (firstOf_best g).le _ trivial
    have hu : (Finset.univ : Finset (Fin 2)) = insert 0 {1} := by decide
    rw [hu, Finset.fold_insert (by decide), Finset.fold_singleton, h0, h1, max_bot_right, max_eq_left hle]
  rw [hmax]
  have hs : ∑ x, Ideal.exp (g (chosen g x) - max ⊥ (g (firstOf g))) = 1 + ratio g := by
    rw [Fin.sum_univ_two, h0, h1, max_bot_left, (hn _).sub_self, ← EReal.coe_zero, Ideal.exp_coe, Real.exp_zero, EReal.coe_one]
    rfl
  rw [hs, max_bot_left]
  have hk : k = 0 ∨ k = 1 := by revert k; decide
  rcases hk with rfl | rfl
  · rw [h0, (hn _).sub_self, ← EReal.coe_zero, Ideal.exp_coe, Real.exp_zero, EReal.coe_one]
    rfl
  · rw [h1]
    rfl

/-- A chosen expert's number is in range. -/
theorem number_ok : ∀ e : Fin 8,
    Scalar.select (IntOp.cmpi .slt (BitVec.ofNat 32 e.val) 0#32) (IntOp.addi (BitVec.ofNat 32 e.val) 8#32) (BitVec.ofNat 32 e.val)
        = BitVec.ofNat 32 e.val
      ∧ IntOp.andi (IntOp.cmpi .sge (BitVec.ofNat 32 e.val) 0#32) (IntOp.cmpi .sle (BitVec.ofNat 32 e.val) 7#32) = 1#1 := by
  decide

section Rows

variable (b : Fin 32) (k : Fin 2)

/-- The first weights: the row number it reads. -/
theorem take0_index : val_main_call0_v5 (F := Ideal) x0 x1 x2 x3 (ix3 b k 0)
    = BitVec.ofNat 32 (chosen (scores x0 x1 x2 x3 b) k).val := by
  have hi := r_indices x0 x1 x2 x3 b k
  revert hi
  generalize hV : val_main_indices (F := Ideal) x0 x1 x2 x3 = V
  intro hi
  pointwise [val_main_call0_v5, val_main_call0_v4, val_main_call0_v3, val_main_call0_v2, val_main_call0_v1, val_main_call0_v0, val_main_call0_c, val_main_call0_c_0, hV, hi]
  exact (number_ok _).1

/-- The first weights: the row number is in range. -/
theorem take0_mask : val_main_call0_v12 (F := Ideal) x0 x1 x2 x3 (ix2 b k) = 1#1 := by
  have hi := take0_index x0 x1 x2 x3 b k
  revert hi
  generalize hV : val_main_call0_v5 (F := Ideal) x0 x1 x2 x3 = V
  intro hi
  pointwise [val_main_call0_v12, val_main_call0_v11, val_main_call0_v10, val_main_call0_v9, val_main_call0_v8, val_main_call0_v7, val_main_call0_v6, val_main_call0_c_1, val_main_call0_c_2, val_main_call0_c_3, hV]
  have hx : ∀ x : Fin 1, V (ix3 b k x) = BitVec.ofNat 32 (chosen (scores x0 x1 x2 x3 b) k).val := fun x => by
    rw [Subsingleton.elim x 0, hi]
  simp only [hx, (number_ok (chosen (scores x0 x1 x2 x3 b) k)).2]
  rfl

/-- The first weights: the chosen expert's row. -/
theorem take0 (x4 : FVec Ideal S8x2048x1024 .bf16) (r : Fin 2048) (q : Fin 1024) :
    val_main_v34 (F := Ideal) x0 x1 x2 x3 x4 (ix4 b k r q) = x4 (ix3 (chosen (scores x0 x1 x2 x3 b) k) r q) := by
  have hi := take0_index x0 x1 x2 x3 b k
  have hM := take0_mask x0 x1 x2 x3 b k
  revert hi hM
  generalize hV : val_main_call0_v5 (F := Ideal) x0 x1 x2 x3 = V
  generalize hM : val_main_call0_v12 (F := Ideal) x0 x1 x2 x3 = M
  intro hi hm
  pointwise [val_main_v34, val_main_call0_v13, val_main_call0_v14, hV, hM, hm]
  exact rows2_apply _ x4 V b k r q (chosen (scores x0 x1 x2 x3 b) k) hi

/-- The first biases: the row number it reads. -/
theorem take1_index : val_main_call1_v5 (F := Ideal) x0 x1 x2 x3 (ix3 b k 0)
    = BitVec.ofNat 32 (chosen (scores x0 x1 x2 x3 b) k).val := by
  have hi := r_indices x0 x1 x2 x3 b k
  revert hi
  generalize hV : val_main_indices (F := Ideal) x0 x1 x2 x3 = V
  intro hi
  pointwise [val_main_call1_v5, val_main_call1_v4, val_main_call1_v3, val_main_call1_v2, val_main_call1_v1, val_main_call1_v0, val_main_call1_c, val_main_call1_c_0, hV, hi]
  exact (number_ok _).1

/-- The first biases: the row number is in range. -/
theorem take1_mask : val_main_call1_v12 (F := Ideal) x0 x1 x2 x3 (ix2 b k) = 1#1 := by
  have hi := take1_index x0 x1 x2 x3 b k
  revert hi
  generalize hV : val_main_call1_v5 (F := Ideal) x0 x1 x2 x3 = V
  intro hi
  pointwise [val_main_call1_v12, val_main_call1_v11, val_main_call1_v10, val_main_call1_v9, val_main_call1_v8, val_main_call1_v7, val_main_call1_v6, val_main_call1_c_1, val_main_call1_c_2, val_main_call1_c_3, hV]
  have hx : ∀ x : Fin 1, V (ix3 b k x) = BitVec.ofNat 32 (chosen (scores x0 x1 x2 x3 b) k).val := fun x => by
    rw [Subsingleton.elim x 0, hi]
  simp only [hx, (number_ok (chosen (scores x0 x1 x2 x3 b) k)).2]
  rfl

/-- The first biases: the chosen expert's row. -/
theorem take1 (x5 : FVec Ideal S8x2048 .bf16) (r : Fin 2048) :
    val_main_v35 (F := Ideal) x0 x1 x2 x3 x5 (ix3 b k r) = x5 (ix2 (chosen (scores x0 x1 x2 x3 b) k) r) := by
  have hi := take1_index x0 x1 x2 x3 b k
  have hM := take1_mask x0 x1 x2 x3 b k
  revert hi hM
  generalize hV : val_main_call1_v5 (F := Ideal) x0 x1 x2 x3 = V
  generalize hM : val_main_call1_v12 (F := Ideal) x0 x1 x2 x3 = M
  intro hi hm
  pointwise [val_main_v35, val_main_call1_v13, val_main_call1_v14, hV, hM, hm]
  exact rows1_apply _ x5 V b k r (chosen (scores x0 x1 x2 x3 b) k) hi

/-- The second weights: the row number it reads. -/
theorem take3_index : val_main_call3_v5 (F := Ideal) x0 x1 x2 x3 (ix3 b k 0)
    = BitVec.ofNat 32 (chosen (scores x0 x1 x2 x3 b) k).val := by
  have hi := r_indices x0 x1 x2 x3 b k
  revert hi
  generalize hV : val_main_indices (F := Ideal) x0 x1 x2 x3 = V
  intro hi
  pointwise [val_main_call3_v5, val_main_call3_v4, val_main_call3_v3, val_main_call3_v2, val_main_call3_v1, val_main_call3_v0, val_main_call3_c, val_main_call3_c_0, hV, hi]
  exact (number_ok _).1

/-- The second weights: the row number is in range. -/
theorem take3_mask : val_main_call3_v12 (F := Ideal) x0 x1 x2 x3 (ix2 b k) = 1#1 := by
  have hi := take3_index x0 x1 x2 x3 b k
  revert hi
  generalize hV : val_main_call3_v5 (F := Ideal) x0 x1 x2 x3 = V
  intro hi
  pointwise [val_main_call3_v12, val_main_call3_v11, val_main_call3_v10, val_main_call3_v9, val_main_call3_v8, val_main_call3_v7, val_main_call3_v6, val_main_call3_c_1, val_main_call3_c_2, val_main_call3_c_3, hV]
  have hx : ∀ x : Fin 1, V (ix3 b k x) = BitVec.ofNat 32 (chosen (scores x0 x1 x2 x3 b) k).val := fun x => by
    rw [Subsingleton.elim x 0, hi]
  simp only [hx, (number_ok (chosen (scores x0 x1 x2 x3 b) k)).2]
  rfl

/-- The second weights: the chosen expert's row. -/
theorem take3 (x6 : FVec Ideal S8x1024x1024 .bf16) (r : Fin 1024) (q : Fin 1024) :
    val_main_v58 (F := Ideal) x0 x1 x2 x3 x6 (ix4 b k r q) = x6 (ix3 (chosen (scores x0 x1 x2 x3 b) k) r q) := by
  have hi := take3_index x0 x1 x2 x3 b k
  have hM := take3_mask x0 x1 x2 x3 b k
  revert hi hM
  generalize hV : val_main_call3_v5 (F := Ideal) x0 x1 x2 x3 = V
  generalize hM : val_main_call3_v12 (F := Ideal) x0 x1 x2 x3 = M
  intro hi hm
  pointwise [val_main_v58, val_main_call3_v13, val_main_call3_v14, hV, hM, hm]
  exact rows2_apply _ x6 V b k r q (chosen (scores x0 x1 x2 x3 b) k) hi

/-- The second biases: the row number it reads. -/
theorem take4_index : val_main_call4_v5 (F := Ideal) x0 x1 x2 x3 (ix3 b k 0)
    = BitVec.ofNat 32 (chosen (scores x0 x1 x2 x3 b) k).val := by
  have hi := r_indices x0 x1 x2 x3 b k
  revert hi
  generalize hV : val_main_indices (F := Ideal) x0 x1 x2 x3 = V
  intro hi
  pointwise [val_main_call4_v5, val_main_call4_v4, val_main_call4_v3, val_main_call4_v2, val_main_call4_v1, val_main_call4_v0, val_main_call4_c, val_main_call4_c_0, hV, hi]
  exact (number_ok _).1

/-- The second biases: the row number is in range. -/
theorem take4_mask : val_main_call4_v12 (F := Ideal) x0 x1 x2 x3 (ix2 b k) = 1#1 := by
  have hi := take4_index x0 x1 x2 x3 b k
  revert hi
  generalize hV : val_main_call4_v5 (F := Ideal) x0 x1 x2 x3 = V
  intro hi
  pointwise [val_main_call4_v12, val_main_call4_v11, val_main_call4_v10, val_main_call4_v9, val_main_call4_v8, val_main_call4_v7, val_main_call4_v6, val_main_call4_c_1, val_main_call4_c_2, val_main_call4_c_3, hV]
  have hx : ∀ x : Fin 1, V (ix3 b k x) = BitVec.ofNat 32 (chosen (scores x0 x1 x2 x3 b) k).val := fun x => by
    rw [Subsingleton.elim x 0, hi]
  simp only [hx, (number_ok (chosen (scores x0 x1 x2 x3 b) k)).2]
  rfl

/-- The second biases: the chosen expert's row. -/
theorem take4 (x7 : FVec Ideal S8x1024 .bf16) (r : Fin 1024) :
    val_main_v59 (F := Ideal) x0 x1 x2 x3 x7 (ix3 b k r) = x7 (ix2 (chosen (scores x0 x1 x2 x3 b) k) r) := by
  have hi := take4_index x0 x1 x2 x3 b k
  have hM := take4_mask x0 x1 x2 x3 b k
  revert hi hM
  generalize hV : val_main_call4_v5 (F := Ideal) x0 x1 x2 x3 = V
  generalize hM : val_main_call4_v12 (F := Ideal) x0 x1 x2 x3 = M
  intro hi hm
  pointwise [val_main_v59, val_main_call4_v13, val_main_call4_v14, hV, hM, hm]
  exact rows1_apply _ x7 V b k r (chosen (scores x0 x1 x2 x3 b) k) hi

end Rows

end Cert.ReferenceIdeal.Moe
-- ==== Proof.RefValue.lean ====
module

public import proofs.«01_k».proof.Proof.Chosen

/-! The reference's answer at a token and a column: the token's own entry and the two chosen experts' weighted answers. -/

@[expose] public section
set_option maxRecDepth 16384
noncomputable section

namespace Cert.ReferenceIdeal.Moe

open Idealize.ShloMosaic Cert.ReferenceIdeal Cert.ReferenceIdeal.Gen Cert.ReferenceIdeal.Read Cert.Moe

/-- The clamp's bound in both widths. -/
theorem seven_eq : Ideal.ofBits .bf16 0x40E0#16 = Ideal.ofBits .f32 0x40E00000#32 := by
  simp [Ideal.ofBits, Ideal.ieee]
  rw [← EReal.coe_mul, ← EReal.coe_mul]
  norm_num

/-- The slope with its sign taken in. -/
theorem slope_eq : Ideal.ofBits .f32 0xBFD9DB23#32 = -Ideal.ofBits .f32 0x3FD9DB23#32 := by
  simp [Ideal.ofBits, Ideal.ieee]

variable (x0 : FVec Ideal S32x1024 .bf16) (x1 : FVec Ideal S1024 .f32) (x2 : FVec Ideal S8x1024 .bf16) (x3 : FVec Ideal S8 .bf16)
  (x4 : FVec Ideal S8x2048x1024 .bf16) (x5 : FVec Ideal S8x2048 .bf16) (x6 : FVec Ideal S8x1024x1024 .bf16) (x7 : FVec Ideal S8x1024 .bf16)

/-- The first product of a chosen expert. -/
theorem r_up (b : Fin 32) (k : Fin 2) (r : Fin 2048) :
    val_main_v38 (F := Ideal) x0 x1 x2 x3 x4 x5 (ix3 b k r)
      = unit (scaled (fun k => x0 (ix2 b k)) (fun k => x1 (ix1 k)))
          (fun q => x4 (ix3 (chosen (scores x0 x1 x2 x3 b) k) r q)) (x5 (ix2 (chosen (scores x0 x1 x2 x3 b) k) r)) := by
  have hW := take0 x0 x1 x2 x3 b k x4
  have hB := take1 x0 x1 x2 x3 b k x5
  revert hW hB
  generalize chosen (scores x0 x1 x2 x3 b) k = e
  generalize hW' : val_main_v34 (F := Ideal) x0 x1 x2 x3 x4 = W
  generalize hB' : val_main_v35 (F := Ideal) x0 x1 x2 x3 x5 = B
  intro hW hB
  pointwise [val_main_v38, val_main_v37, val_main_v36, hW', hB', hW, hB, r_scaled, unit]
  refine congrArg (· + _) (Finset.sum_congr rfl fun q _ => mul_comm _ _)

/-- The gated units of a chosen expert. -/
theorem r_hidden (b : Fin 32) (k : Fin 2) (c : Fin 1024) :
    val_main_v57 (F := Ideal) x0 x1 x2 x3 x4 x5 (ix3 b k c)
      = hiddenAt (scaled (fun k => x0 (ix2 b k)) (fun k => x1 (ix1 k)))
          (fun r q => x4 (ix3 (chosen (scores x0 x1 x2 x3 b) k) r q)) (fun r => x5 (ix2 (chosen (scores x0 x1 x2 x3 b) k) r)) c := by
  have hU := r_up x0 x1 x2 x3 x4 x5 b k
  revert hU
  generalize chosen (scores x0 x1 x2 x3 b) k = e
  generalize hW : val_main_v38 (F := Ideal) x0 x1 x2 x3 x4 x5 = W
  intro hU
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_cst_5, val_main_cst_6, val_main_cst_7, val_main_cst_8, val_main_cst_9, val_main_cst_10, val_main_cst_11, val_main_call2_v0, val_main_call2_v1, val_main_call2_v2, val_main_call2_v3, val_main_call2_v4, hW]
  have ho : (⟨1 + 2 * c.val, by omega⟩ : Fin 2048) = odd c := Fin.ext (Nat.add_comm _ _)
  rw [ho, seven_eq, ← EReal.neg_mul, ← slope_eq]
  have h : gated (W (ix3 b k (even c))) (W (ix3 b k (odd c)))
      = hiddenAt (scaled (fun k => x0 (ix2 b k)) (fun k => x1 (ix1 k))) (fun r q => x4 (ix3 e r q)) (fun r => x5 (ix2 e r)) c := by
    rw [hU, hU]
    rfl
  exact h

/-- The reference's answer, when the scores are numbers. -/
theorem r_value (b : Fin 32) (d : Fin 1024) (hn : ∀ e, IsNum (scores x0 x1 x2 x3 b e)) :
    val_main_v65 (F := Ideal) x0 x1 x2 x3 x4 x5 x6 x7 (ix2 b d)
      = x0 (ix2 b d) + ∑ e, weightOf (scores x0 x1 x2 x3 b) e
          * answer (hiddenAt (scaled (fun k => x0 (ix2 b k)) (fun k => x1 (ix1 k))) (fun r q => x4 (ix3 e r q)) (fun r => x5 (ix2 e r)))
              (fun r q => x6 (ix3 e r q)) (fun r => x7 (ix2 e r)) d := by
  rw [sum_weightOf]
  have hH := r_hidden x0 x1 x2 x3 x4 x5 b
  have hP := r_weight x0 x1 x2 x3 b hn
  have hW := fun k => take3 x0 x1 x2 x3 b k x6
  have hB := fun k => take4 x0 x1 x2 x3 b k x7
  revert hH hP hW hB
  generalize scores x0 x1 x2 x3 b = g
  generalize hH' : val_main_v57 (F := Ideal) x0 x1 x2 x3 x4 x5 = H
  generalize hP' : val_main_v33 (F := Ideal) x0 x1 x2 x3 = P
  generalize hW' : val_main_v58 (F := Ideal) x0 x1 x2 x3 x6 = W
  generalize hB' : val_main_v59 (F := Ideal) x0 x1 x2 x3 x7 = B
  intro hH hP hW hB
  have hy : ∀ k, ∑ c, W (ix4 b k d c) * H (ix3 b k c) + B (ix3 b k d)
      = answer (hiddenAt (scaled (fun k => x0 (ix2 b k)) (fun k => x1 (ix1 k))) (fun r q => x4 (ix3 (chosen g k) r q)) (fun r => x5 (ix2 (chosen g k) r)))
              (fun r q => x6 (ix3 (chosen g k) r q)) (fun r => x7 (ix2 (chosen g k) r)) d := fun k => by
    unfold answer
    rw [hB]
    refine congrArg (· + _) (Finset.sum_congr rfl fun c _ => ?_)
    rw [hW, hH, mul_comm]
  pointwise [val_main_v65, val_main_v64, val_main_v63, val_main_v62, val_main_v61, val_main_v60, hH', hP', hW', hB']
  refine congrArg (x0 (ix2 b d) + ·) ?_
  rw [Fin.sum_univ_two, hy, hy, hP, hP]
  rfl

end Cert.ReferenceIdeal.Moe
-- ==== Proof.Same.lean ====
module

public import proofs.«01_k».proof.Defs
public import proofs.«01_k».proof.Proof.Gen.Pre_router_finite
public import proofs.«01_k».proof.Proof.KerValue
public import proofs.«01_k».proof.Proof.RefValue
public import Idealize.ShloMosaic.Lib.Claim

/-! The kernel and the reference leave the same array, whenever the scale, the routing weights and the routing biases are
numbers. -/

@[expose] public section
set_option maxRecDepth 16384
noncomputable section

namespace Cert.Moe

open Idealize.ShloMosaic Idealize.ShloMosaic.TcCoe Idealize.SL.Sem

/-- An entry whose absolute value is below infinity is a number. -/
theorem isNum_of_abs (x : EReal) (h : FloatOps.cmpf (F := Ideal) (φ := .f32) .olt (max x (-x)) (Ideal.ofBits .f32 0x7F800000#32) = 1#1) : IsNum x := by
  have ht : Ideal.ofBits .f32 0x7F800000#32 = ⊤ := by simp [Ideal.ofBits, Ideal.ieee]
  rw [ht] at h
  have h' : BitVec.ofBool (decide (max x (-x) < ⊤)) = 1#1 := h
  refine isNum_of_ne (fun e => ?_) (fun e => ?_) <;> subst e <;> simp at h'

section Pre

variable (x0 : FVec Ideal Cert.Pre_router_finite.S32x1024 .bf16) (x1 : FVec Ideal Cert.Pre_router_finite.S1024 .f32)
  (x2 : FVec Ideal Cert.Pre_router_finite.S8x1024 .bf16) (x3 : FVec Ideal Cert.Pre_router_finite.S8 .bf16)
  (x4 : FVec Ideal Cert.Pre_router_finite.S8x2048x1024 .bf16) (x5 : FVec Ideal Cert.Pre_router_finite.S8x2048 .bf16)
  (x6 : FVec Ideal Cert.Pre_router_finite.S8x1024x1024 .bf16) (x7 : FVec Ideal Cert.Pre_router_finite.S8x1024 .bf16)

/-- The precondition's first array, entry by entry. -/
theorem pre1 (h : (Cert.Pre_router_finite.fn (F := Ideal) x0 x1 x2 x3 x4 x5 x6 x7).1 = fun _ => 1#1) (k : Fin 1024) :
    IsNum (x1 (ix1 k)) := by
  refine isNum_of_abs _ ?_
  have h := congrFun h (ix1 k)
  refine Eq.trans ?_ h
  pointwise [Cert.Pre_router_finite.fn]
  rfl

/-- The precondition's second array, entry by entry. -/
theorem pre2 (h : (Cert.Pre_router_finite.fn (F := Ideal) x0 x1 x2 x3 x4 x5 x6 x7).2.1 = fun _ => 1#1) (e : Fin 8) (k : Fin 1024) :
    IsNum (x2 (ix2 e k)) := by
  refine isNum_of_abs _ ?_
  have h := congrFun h (ix2 e k)
  refine Eq.trans ?_ h
  pointwise [Cert.Pre_router_finite.fn]
  rfl

/-- The precondition's third array, entry by entry. -/
theorem pre3 (h : (Cert.Pre_router_finite.fn (F := Ideal) x0 x1 x2 x3 x4 x5 x6 x7).2.2 = fun _ => 1#1) (e : Fin 8) :
    IsNum (x3 (ix1 e)) := by
  refine isNum_of_abs _ ?_
  have h := congrFun h (ix1 e)
  refine Eq.trans ?_ h
  pointwise [Cert.Pre_router_finite.fn]
  rfl

end Pre

variable (m : (ℓ : Loc Cert.KernelIdeal.nD Cert.KernelIdeal.τ Cert.KernelIdeal.sig) → Buf (Elt Ideal) ℓ)

/-- The scores are numbers under the precondition. -/
theorem scores_isNum (h : Cert.Pre_KernelIdeal_router_finite m) (c : Dev Cert.KernelIdeal.nD) (b : Fin 32) (e : Fin 8) :
    IsNum (Cert.KernelIdeal.Moe.rowScores m c b e) :=
  score_isNum _ _ _ _ (pre1 _ _ _ _ _ _ _ _ (h c).1) (pre2 _ _ _ _ _ _ _ _ (h c).2.1) (pre3 _ _ _ _ _ _ _ _ (h c).2.2) e

/-- The two answers are one array. -/
theorem same (h : Cert.Pre_KernelIdeal_router_finite m) (c : Dev Cert.KernelIdeal.nD) :
    Cert.ReferenceIdeal.Read.val_main_v65 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Moe.outBlock m c := by
  funext i
  have hi : ∃ (b : Fin 32) (d : Fin 1024), i = ix2 b d := by
    refine ⟨i 0, i 1, ?_⟩
    funext a
    fin_cases a
    · rfl
    · rfl
  obtain ⟨b, d, rfl⟩ := hi
  have hn := scores_isNum m h c b
  exact (Cert.ReferenceIdeal.Moe.r_value _ _ _ _ _ _ _ _ b d hn).trans
    (Cert.KernelIdeal.Moe.k_value m c b d (fun e => (hn e).ne_bot)).symm

/-- The same, for arrays that are the kernel's arguments. -/
theorem same_of (h : Cert.Pre_KernelIdeal_router_finite m) (c : Dev Cert.KernelIdeal.nD)
    (y0 : FVec Ideal Cert.ReferenceIdeal.S32x1024 .bf16)
    (y1 : FVec Ideal Cert.ReferenceIdeal.S1024 .f32)
    (y2 : FVec Ideal Cert.ReferenceIdeal.S8x1024 .bf16)
    (y3 : FVec Ideal Cert.ReferenceIdeal.S8 .bf16)
    (y4 : FVec Ideal Cert.ReferenceIdeal.S8x2048x1024 .bf16)
    (y5 : FVec Ideal Cert.ReferenceIdeal.S8x2048 .bf16)
    (y6 : FVec Ideal Cert.ReferenceIdeal.S8x1024x1024 .bf16)
    (y7 : FVec Ideal Cert.ReferenceIdeal.S8x1024 .bf16)
    (h0 : y0 = m ((c.tc : Thread Cert.KernelIdeal.nD Cert.KernelIdeal.τ).loc Cert.KernelIdeal.main_arg0))
    (h1 : y1 = m ((c.tc : Thread Cert.KernelIdeal.nD Cert.KernelIdeal.τ).loc Cert.KernelIdeal.main_arg1))
    (h2 : y2 = m ((c.tc : Thread Cert.KernelIdeal.nD Cert.KernelIdeal.τ).loc Cert.KernelIdeal.main_arg2))
    (h3 : y3 = m ((c.tc : Thread Cert.KernelIdeal.nD Cert.KernelIdeal.τ).loc Cert.KernelIdeal.main_arg3))
    (h4 : y4 = m ((c.tc : Thread Cert.KernelIdeal.nD Cert.KernelIdeal.τ).loc Cert.KernelIdeal.main_arg4))
    (h5 : y5 = m ((c.tc : Thread Cert.KernelIdeal.nD Cert.KernelIdeal.τ).loc Cert.KernelIdeal.main_arg5))
    (h6 : y6 = m ((c.tc : Thread Cert.KernelIdeal.nD Cert.KernelIdeal.τ).loc Cert.KernelIdeal.main_arg6))
    (h7 : y7 = m ((c.tc : Thread Cert.KernelIdeal.nD Cert.KernelIdeal.τ).loc Cert.KernelIdeal.main_arg7)) :
    Cert.ReferenceIdeal.Read.val_main_v65 (F := Ideal) y0 y1 y2 y3 y4 y5 y6 y7 = Cert.KernelIdeal.Moe.outBlock m c := by
  subst h0 h1 h2 h3 h4 h5 h6 h7
  exact same m h c

end Cert.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_router_finite
public import proofs.«01_k».proof.Proof.Twin
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

/-- The kernel, at machine words: it ends, leaves the arguments as they were and every counter at zero. -/
theorem quiet_kernel : Cert.quiescent_Kernel := fun m g _ => by
  rw [Cert.KernelIdeal.Moe.defs_eq]
  exact Cert.KernelIdeal.Moe.frame_all (F := Bits) m g

/-- The same of the kernel over the extended reals. -/
theorem quiet_ideal : Cert.quiescent_KernelIdeal := fun m g _ => Cert.KernelIdeal.Moe.frame_all (F := Ideal) m g

/-- The same of the reference over the extended reals. -/
theorem quiet_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's run under the precondition: the same. -/
theorem quiet_ideal_pre : Cert.quiescent_KernelIdeal_pre_router_finite := fun m g _ => Cert.KernelIdeal.Moe.frame_all (F := Ideal) m g

/-- The reference's run under the precondition: the same. -/
theorem quiet_reference_pre : Cert.quiescent_ReferenceIdeal_pre_router_finite := fun m g _ =>
  (θ_run Cert.ReferenceIdeal.defs _ _).mono (fun r h => ⟨fun c => (h c).2, sem_eq_zero_of_no_sems (by decide) r.2⟩)
    (Cert.ReferenceIdeal.Value.run (F := Ideal) m g)

/-- On the same arguments, with the scale, the routing weights and the routing biases numbers, the kernel and the reference
leave the same array. -/
theorem same_answer : Cert.algebraic_KernelIdeal_ReferenceIdeal_pre_router_finite := fun m g m' g' hpre harg =>
  ⟨fun c => Cert.KernelIdeal.Moe.outBlock m c, Cert.KernelIdeal.Moe.run_value m g,
    (θ_run Cert.ReferenceIdeal.defs _ _).mono (fun r h c => ⟨
      (h c).1.trans ((Cert.ReferenceIdeal.Read.val_main_v65_eq (F := Ideal) (StableHlo.launchContents m' c)).trans
        (Cert.Moe.same_of m hpre c _ _ _ _ _ _ _ _ (harg c).1 (harg c).2.1 (harg c).2.2.1 (harg c).2.2.2.1 (harg c).2.2.2.2.1
          (harg c).2.2.2.2.2.1 (harg c).2.2.2.2.2.2.1 (harg c).2.2.2.2.2.2.2)), (h c).2⟩)
      (Cert.ReferenceIdeal.Value.run (F := Ideal) m' g')⟩

/-- Everything that is claimed. -/
theorem claim : Cert.Claim := ⟨Cert.Kernel.Gen.facts, Cert.KernelIdeal.Gen.facts, Cert.ReferenceIdeal.Gen.facts,
  Cert.Pre_router_finite.Gen.facts, quiet_kernel, quiet_ideal, quiet_ideal_pre, quiet_reference, quiet_reference_pre, trivial,
  same_answer⟩

end Cert.Proof

end
